-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .bf16) (main_arg1 : FVec F S256x64 .bf16) (main_arg2 : IVec S1024x1 32) (main_arg3 : FVec F S4x256x512 .bf16) (main_arg4 : FVec F S256x512 .bf16) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Pre_in_range_ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .bf16) (main_arg1 : FVec F S256x64 .bf16) (main_arg2 : IVec S1024x1 32) (main_arg3 : FVec F S64x256x512 .bf16) (main_arg4 : FVec F S256x512 .bf16) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S64x512 : Shape := ⟨2, ![64, 512]⟩
abbrev S1024x512 : Shape := ⟨2, ![1024, 512]⟩
abbrev S16x64x512 : Shape := ⟨3, ![16, 64, 512]⟩
abbrev S16 : Shape := ⟨1, ![16]⟩
abbrev S_ : Shape := ⟨0, ![]⟩
abbrev S1024x64 : Shape := ⟨2, ![1024, 64]⟩
abbrev S1024 : Shape := ⟨1, ![1024]⟩
abbrev S1x256x512 : Shape := ⟨3, ![1, 256, 512]⟩
abbrev S1 : Shape := ⟨1, ![1]⟩
abbrev S1x64x512 : Shape := ⟨3, ![1, 64, 512]⟩
abbrev S64x256 : Shape := ⟨2, ![64, 256]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S64x512, .f32⟩
  | .local _ .vmem, ⟨0, _⟩ => ⟨S1024x256, .bf16⟩
  | .local _ .vmem, ⟨1, _⟩ => ⟨S256x64, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S64x512, .f32⟩
  | .local _ .vmem, ⟨6, _⟩ => ⟨S1024x512, .bf16⟩
  | .local _ .vmem, ⟨7, _⟩ => ⟨S16x64x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) (c1_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v112 : BitVec 32 := Scalar.addi v2 c1_i32_87
  let c16_i32_88 : BitVec 32 := 16#32
  let v113 : BitVec 32 := Scalar.remsi v112 c16_i32_88
  let c64_i32 : BitVec 32 := 64#32
  let v114 : BitVec 32 := Scalar.muli v113 c64_i32
  let c0_i32_96 : BitVec 32 := 0#32
  ![v114.toNat, 0]
def k0_dev17 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v112 : BitVec 32 := Scalar.addi v2 c1_i32_87
  let c16_i32_88 : BitVec 32 := 16#32
  let v113 : BitVec 32 := Scalar.remsi v112 c16_i32_88
  let c1_i32_92 : BitVec 32 := 1#32
  let v115 : BitVec 32 := Scalar.muli v113 c1_i32_92
  let v116 : BitVec 32 := Scalar.addi c0_i32_93 v115
  v116.toNat
def k0_dev18 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_97 : BitVec 32 := 2#32
  let v124 : BitVec 32 := Scalar.addi v2 c2_i32_97
  let c16_i32_98 : BitVec 32 := 16#32
  let v125 : BitVec 32 := Scalar.remsi v124 c16_i32_98
  let c1_i32_103 : BitVec 32 := 1#32
  let v127 : BitVec 32 := Scalar.muli v125 c1_i32_103
  let v128 : BitVec 32 := Scalar.addi c0_i32_104 v127
  v128.toNat
def k0_dev19 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_108 : BitVec 32 := 3#32
  let v136 : BitVec 32 := Scalar.addi v2 c3_i32_108
  let c16_i32_109 : BitVec 32 := 16#32
  let v137 : BitVec 32 := Scalar.remsi v136 c16_i32_109
  let c1_i32_114 : BitVec 32 := 1#32
  let v139 : BitVec 32 := Scalar.muli v137 c1_i32_114
  let v140 : BitVec 32 := Scalar.addi c0_i32_115 v139
  v140.toNat
def k0_dev20 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_119 : BitVec 32 := 4#32
  let v148 : BitVec 32 := Scalar.addi v2 c4_i32_119
  let c16_i32_120 : BitVec 32 := 16#32
  let v149 : BitVec 32 := Scalar.remsi v148 c16_i32_120
  let c1_i32_125 : BitVec 32 := 1#32
  let v151 : BitVec 32 := Scalar.muli v149 c1_i32_125
  let v152 : BitVec 32 := Scalar.addi c0_i32_126 v151
  v152.toNat
def k0_dev21 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_130 : BitVec 32 := 5#32
  let v160 : BitVec 32 := Scalar.addi v2 c5_i32_130
  let c16_i32_131 : BitVec 32 := 16#32
  let v161 : BitVec 32 := Scalar.remsi v160 c16_i32_131
  let c1_i32_136 : BitVec 32 := 1#32
  let v163 : BitVec 32 := Scalar.muli v161 c1_i32_136
  let v164 : BitVec 32 := Scalar.addi c0_i32_137 v163
  v164.toNat
def k0_dev22 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_141 : BitVec 32 := 6#32
  let v172 : BitVec 32 := Scalar.addi v2 c6_i32_141
  let c16_i32_142 : BitVec 32 := 16#32
  let v173 : BitVec 32 := Scalar.remsi v172 c16_i32_142
  let c1_i32_147 : BitVec 32 := 1#32
  let v175 : BitVec 32 := Scalar.muli v173 c1_i32_147
  let v176 : BitVec 32 := Scalar.addi c0_i32_148 v175
  v176.toNat
def k0_dev23 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_152 : BitVec 32 := 7#32
  let v184 : BitVec 32 := Scalar.addi v2 c7_i32_152
  let c16_i32_153 : BitVec 32 := 16#32
  let v185 : BitVec 32 := Scalar.remsi v184 c16_i32_153
  let c1_i32_158 : BitVec 32 := 1#32
  let v187 : BitVec 32 := Scalar.muli v185 c1_i32_158
  let v188 : BitVec 32 := Scalar.addi c0_i32_159 v187
  v188.toNat
def k0_dev24 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_163 : BitVec 32 := 8#32
  let v196 : BitVec 32 := Scalar.addi v2 c8_i32_163
  let c16_i32_164 : BitVec 32 := 16#32
  let v197 : BitVec 32 := Scalar.remsi v196 c16_i32_164
  let c1_i32_169 : BitVec 32 := 1#32
  let v199 : BitVec 32 := Scalar.muli v197 c1_i32_169
  let v200 : BitVec 32 := Scalar.addi c0_i32_170 v199
  v200.toNat
def k0_dev25 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_174 : BitVec 32 := 9#32
  let v208 : BitVec 32 := Scalar.addi v2 c9_i32_174
  let c16_i32_175 : BitVec 32 := 16#32
  let v209 : BitVec 32 := Scalar.remsi v208 c16_i32_175
  let c1_i32_180 : BitVec 32 := 1#32
  let v211 : BitVec 32 := Scalar.muli v209 c1_i32_180
  let v212 : BitVec 32 := Scalar.addi c0_i32_181 v211
  v212.toNat
def k0_dev26 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_185 : BitVec 32 := 10#32
  let v220 : BitVec 32 := Scalar.addi v2 c10_i32_185
  let c16_i32_186 : BitVec 32 := 16#32
  let v221 : BitVec 32 := Scalar.remsi v220 c16_i32_186
  let c1_i32_191 : BitVec 32 := 1#32
  let v223 : BitVec 32 := Scalar.muli v221 c1_i32_191
  let v224 : BitVec 32 := Scalar.addi c0_i32_192 v223
  v224.toNat
def k0_dev27 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_196 : BitVec 32 := 11#32
  let v232 : BitVec 32 := Scalar.addi v2 c11_i32_196
  let c16_i32_197 : BitVec 32 := 16#32
  let v233 : BitVec 32 := Scalar.remsi v232 c16_i32_197
  let c1_i32_202 : BitVec 32 := 1#32
  let v235 : BitVec 32 := Scalar.muli v233 c1_i32_202
  let v236 : BitVec 32 := Scalar.addi c0_i32_203 v235
  v236.toNat
def k0_dev28 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_207 : BitVec 32 := 12#32
  let v244 : BitVec 32 := Scalar.addi v2 c12_i32_207
  let c16_i32_208 : BitVec 32 := 16#32
  let v245 : BitVec 32 := Scalar.remsi v244 c16_i32_208
  let c1_i32_213 : BitVec 32 := 1#32
  let v247 : BitVec 32 := Scalar.muli v245 c1_i32_213
  let v248 : BitVec 32 := Scalar.addi c0_i32_214 v247
  v248.toNat
def k0_dev29 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_218 : BitVec 32 := 13#32
  let v256 : BitVec 32 := Scalar.addi v2 c13_i32_218
  let c16_i32_219 : BitVec 32 := 16#32
  let v257 : BitVec 32 := Scalar.remsi v256 c16_i32_219
  let c1_i32_224 : BitVec 32 := 1#32
  let v259 : BitVec 32 := Scalar.muli v257 c1_i32_224
  let v260 : BitVec 32 := Scalar.addi c0_i32_225 v259
  v260.toNat
def k0_dev30 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_229 : BitVec 32 := 14#32
  let v268 : BitVec 32 := Scalar.addi v2 c14_i32_229
  let c16_i32_230 : BitVec 32 := 16#32
  let v269 : BitVec 32 := Scalar.remsi v268 c16_i32_230
  let c1_i32_235 : BitVec 32 := 1#32
  let v271 : BitVec 32 := Scalar.muli v269 c1_i32_235
  let v272 : BitVec 32 := Scalar.addi c0_i32_236 v271
  v272.toNat
def k0_dev31 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_240 : BitVec 32 := 15#32
  let v280 : BitVec 32 := Scalar.addi v2 c15_i32_240
  let c16_i32_241 : BitVec 32 := 16#32
  let v281 : BitVec 32 := Scalar.remsi v280 c16_i32_241
  let c1_i32_246 : BitVec 32 := 1#32
  let v283 : BitVec 32 := Scalar.muli v281 c1_i32_246
  let v284 : BitVec 32 := Scalar.addi c0_i32_247 v283
  v284.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_251 : BitVec 32 := 64#32
  let v292 : BitVec 32 := Scalar.muli v2 c64_i32_251
  let v293 : Index := Scalar.indexCast v292
  let c0_252 : Index := 0#32
  ![v293.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_256 : BitVec 32 := 64#32
  let v299 : BitVec 32 := Scalar.muli v2 c64_i32_256
  let v300 : Index := Scalar.indexCast v299
  let c0_257 : Index := 0#32
  ![v300.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S1024x64 : Shape := ⟨2, ![1024, 64]⟩
abbrev S_ : Shape := ⟨0, ![]⟩
abbrev S1024 : Shape := ⟨1, ![1024]⟩
abbrev S1024x512 : Shape := ⟨2, ![1024, 512]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S64x256x512, .bf16⟩
  | .hbm, ⟨4, _⟩ => ⟨S256x512, .bf16⟩
  | .hbm, ⟨5, _⟩ => ⟨S1024x256, .f32⟩
  | .hbm, ⟨6, _⟩ => ⟨S256x64, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x64, .f32⟩
  | .hbm, ⟨18, _⟩ => ⟨S1024x64, .f32⟩
  | .hbm, ⟨19, _⟩ => ⟨S256x512, .f32⟩
  | .hbm, ⟨20, _⟩ => ⟨S1024x512, .f32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S1024x1x1, .i32⟩
  | .hbm, ⟨29, _⟩ => ⟨S1, .i32⟩
  | .hbm, ⟨30, _⟩ => ⟨S_, .i32⟩
  | .hbm, ⟨31, _⟩ => ⟨S1024x1x1, .i32⟩
  | .hbm, ⟨32, _⟩ => ⟨S1024x1x1, .i1⟩
  | .hbm, ⟨33, _⟩ => ⟨S1x1x1, .i32⟩
  | .hbm, ⟨34, _⟩ => ⟨S1024x1x1, .i32⟩
  | .hbm, ⟨35, _⟩ => ⟨S1024x1x1, .i1⟩
  | .hbm, ⟨36, _⟩ => ⟨S1024x1x1, .i1⟩
  | .hbm, ⟨37, _⟩ => ⟨S_, .i1⟩
  | .hbm, ⟨38, _⟩ => ⟨S1024x1, .i1⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S64x256x512, .f32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x256x512, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Proto.lean ====
/-
# The protocol of the expert-parallel layer's kernel

Sixteen devices. Device `c` computes a partial product of all 1024 rows, keeps rows `64c .. 64c+63` and sends, for every
offset `o = 1 .. 15`, the 64 rows of device `c + o` into slot `o` of that device's landing buffer; so slot `o` of device
`c` receives the rows device `c - o` computed for it.

Cells of device `c`, each with the one round 0:
* the barrier cell: sixteen duties, duty `d` paid by device `d`'s signal (one unit), which hands `c` the slot of `d`'s
  landing buffer that `c` writes, slot `d - c`; `c` waits for all sixteen units once;
* send cell `o` (offsets 1 to 15): one duty, the transfer's own, which hands the source rows back;
* receive cell `o` (offsets 1 to 15): one duty, paid by device `c - o`, which hands slot `o` with the landed rows.
Cells number 0 of the two semaphore arrays take part in nothing. Levels: barrier 1, receive 2, all others 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.SparseCore.Stream
public import Idealize.ShloMosaic.Lib.Ring
public import Idealize.ShloMosaic.Lib.ValueLayout
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.SparseCore.ProtocolKit (finFrom)
open Idealize.ShloMosaic.Ring (pointsTo_blocks pointsTo_blocks_join_exists lead_disjoint lead_cover)

variable {F : FTy → Type} [FloatOps F]

/-- The exchange's ghost state: one duty name per device. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch memory: any contents, all counters zero, any generator registers. -/
def s₀ : MemSt nD τ sig (Elt F) := ⟨m, fun _ => 0, ρ⟩

/-! ## Memory and semaphores -/

abbrev xM : Memref sig .tc .vmem S1024x256 .bf16 := Memref.whole cc0_stg0_0
abbrev rM : Memref sig .tc .vmem S256x64 .bf16 := Memref.whole cc0_stg1_0
abbrev iM : Memref sig .tc .vmem S1024x1 .i32 := Memref.whole cc0_stg2_0
abbrev eM : Memref sig .tc .vmem S4x256x512 .bf16 := Memref.whole cc0_stg3_0
abbrev wM : Memref sig .tc .vmem S256x512 .bf16 := Memref.whole cc0_stg4_0
abbrev oM : Memref sig .tc .vmem S64x512 .f32 := Memref.whole cc0_stg5_0
abbrev pM : Memref sig .tc .vmem S1024x512 .bf16 := Memref.whole cc0_scratch0
abbrev cM : Memref sig .tc .vmem S16x64x512 .bf16 := Memref.whole cc0_scratch1

theorem slot_inb (o : Fin 16) : ∀ a, (![o.val, 0, 0] : Fin 3 → Nat) a + S1x64x512.size a ≤ S16x64x512.size a := by
  revert o; decide
theorem sem_inb (o : Fin 16) : ∀ a, (![o.val] : Fin 1 → Nat) a + S1.size a ≤ S16.size a := by
  revert o; decide
theorem row_inb (t : Fin 16) : ∀ a, (![64 * t.val, 0] : Fin 2 → Nat) a + S64x512.size a ≤ S1024x512.size a := by
  revert t; decide

/-- Slot `o` of the landing buffer, as a rectangle of it and as the 64×512 array the transfers see. -/
abbrev slotR (o : Fin 16) : Rect S16x64x512 := Rect.unit (s := S16x64x512) ![o.val, 0, 0] S1x64x512.size (slot_inb o)
abbrev slotM (o : Fin 16) : Memref sig .tc .vmem S64x512 .bf16 :=
  (cM.slice (slotR o) (fun _ => rfl)).squeeze S64x512 squeezes_S1x64x512_S64x512
/-- Row block `t` of the partial product. -/
abbrev rowR (t : Fin 16) : Rect S1024x512 := Rect.unit (s := S1024x512) ![64 * t.val, 0] S64x512.size (row_inb t)
/-- The row block device `c` sends at offset `r + 1`, as the kernel names it. -/
abbrev srcM (c : Dev nD) (r : Fin 15) : Memref sig .tc .vmem S64x512 .bf16 :=
  pM.slice (Rect.unit (s := S1024x512) (k0_off1 c (BitVec.ofNat 32 (1 + r.val))) S64x512.size (k0_off1_inb c r)) (fun _ => rfl)

abbrev barS : Sem sig := (SemArray.scalar (sig.barrier 0 rfl) : Sems sig S_).sem
abbrev sendS (o : Fin 16) : DmaSem sig :=
  ((cc0_scratch2.slice (Rect.unit (s := S16) ![o.val] S1.size (sem_inb o)) : DmaSems sig S1).squeeze S_ squeezes_S1_S_).sem
abbrev recvS (o : Fin 16) : DmaSem sig :=
  ((cc0_scratch3.slice (Rect.unit (s := S16) ![o.val] S1.size (sem_inb o)) : DmaSems sig S1).squeeze S_ squeezes_S1_S_).sem

theorem sendS_val (o : Fin 16) : (sendS o).val = 6 + o.val := by revert o; decide
theorem recvS_val (o : Fin 16) : (recvS o).val = 22 + o.val := by revert o; decide

abbrev barCell (c : Dev nD) : GSem nD τ sig := ((c : Thread nD τ), .reg barS)
abbrev sendCell (c : Dev nD) (o : Fin 16) : GSem nD τ sig := ((c : Thread nD τ), .dma (sendS o))
abbrev recvCell (c : Dev nD) (o : Fin 16) : GSem nD τ sig := ((c : Thread nD τ), .dma (recvS o))

/-- The kernel's own semaphores: the two arrays. -/
abbrev OK : Type := Fin 16 ⊕ Fin 16
abbrev osem : OK → SemLoc sig := fun | .inl o => .dma (sendS o) | .inr o => .dma (recvS o)
/-- All cells of a device: the barrier's and the two arrays'. -/
abbrev CK : Type := Unit ⊕ OK
abbrev csem : CK → SemLoc sig := fun | .inl _ => .reg barS | .inr k => osem k
abbrev kcell (ck : Dev nD × CK) : GSem nD τ sig := ((ck.1 : Thread nD τ), csem ck.2)

/-- The units one transfer credits. -/
abbrev N : ℕ := (slotM 0).view.dmaCredit
theorem N_pos : 0 < N := View.dmaCredit_pos _ (by decide)
theorem slot_credit (o : Fin 16) : (slotM o).view.dmaCredit = N := rfl
theorem src_credit (c : Dev nD) (r : Fin 15) : (srcM c r).view.dmaCredit = N := rfl

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))
def wstg (c : Dev nD) : (cc0_stg4_0 : Ref sig .tc).ty.Contents (Elt F) :=
  (win0_4.blk (0 : Fin 1)).view.read (Elt F) ((s₀ m ρ).mem ((c : Thread nD τ).loc main_arg4))

/-- The device's number as the kernel computes it. -/
def wd (c : Dev nD) : BitVec 32 := Scalar.remsi (Scalar.divsi (Dev.word c) 1#32) 16#32

/-- The expert's weights the kernel loads from position `e` of the device's four. -/
def ew (f : (cc0_stg3_0 : Ref sig .tc).ty.Contents (Elt F)) (o : Fin 3 → Nat) (h : ∀ a, o a + S1x256x512.size a ≤ S4x256x512.size a) :
    Vec F S1x256x512 .bf16 :=
  eM.view.readAt (Elt F) (Rect.unit (s := S4x256x512) o S1x256x512.size h).toLoadRect f

/-- The partial product the kernel computes from the staged inputs and its number. -/
def partOf (v : BitVec 32) (x : Vec F S1024x256 .bf16) (r : Vec F S256x64 .bf16) (i : Vec F S1024x1 .i32)
    (e : (cc0_stg3_0 : Ref sig .tc).ty.Contents (Elt F)) : (cc0_scratch0 : Ref sig .tc).ty.Contents (Elt F) :=
  k0_pay6 v (k0_pay2 x) (k0_pay3 i) (k0_pay4 x r i) (k0_pay5 v x r i (ew e ![0, 0, 0] inb_S4x256x512_S1x256x512_0_0_0))
    (Scalar.muli 4#32 v) 1#32 (ew e ![1, 0, 0] inb_S4x256x512_S1x256x512_1_0_0) (ew e ![2, 0, 0] inb_S4x256x512_S1x256x512_2_0_0)
    (ew e ![3, 0, 0] inb_S4x256x512_S1x256x512_3_0_0)

/-- Device `c`'s partial product. -/
def part (c : Dev nD) : (cc0_scratch0 : Ref sig .tc).ty.Contents (Elt F) :=
  partOf (wd c) (xstg m ρ c) (rstg m ρ c) (istg m ρ c) (estg m ρ c)

/-- The device whose rows land in slot `o` of device `c`. -/
abbrev senderOf (c o : Fin 16) : Fin 16 := c - o
/-- Row `j` of device `c`'s row block, as a row of the whole. -/
abbrev rowOf (c : Fin 16) (j : Fin 64) : Fin 1024 := ⟨64 * c.val + j.val, by omega⟩

/-- What the landing buffer of device `c` holds once every transfer has landed: slot `o` the rows of `c` in the partial
    product of device `c - o`. -/
def landed (c : Dev nD) : (cc0_scratch1 : Ref sig .tc).ty.Contents (Elt F) := fun i =>
  part m ρ (senderOf c (i 0)) (ix2 (n0 := 1024) (n1 := 512) (rowOf c (i 1)) (i 2))

/-! ## What the cells carry -/

/-- Slot `o` of device `c`'s landing buffer, and row block `t` of its partial product, held at the given contents. -/
def slotPts (c : Dev nD) (o : Fin 16) (f : Buf (Elt F) ((c : Thread nD τ).loc cc0_scratch1)) : sProp 𝕄 :=
  ((c : Thread nD τ).loc cc0_scratch1) ↦[(slotR o).set]{fullShare} f
def rowPts (c : Dev nD) (t : Fin 16) (f : Buf (Elt F) ((c : Thread nD τ).loc cc0_scratch0)) : sProp 𝕄 :=
  ((c : Thread nD τ).loc cc0_scratch0) ↦[(rowR t).set]{fullShare} f

omit [FloatOps F] in
instance slotPts_storable (c : Dev nD) (o : Fin 16) (f) : BI.Storable (upEmb : UEmb _ 𝕄) (slotPts (F := F) c o f) := by
  unfold slotPts; infer_instance
omit [FloatOps F] in
instance rowPts_storable (c : Dev nD) (t : Fin 16) (f) : BI.Storable (upEmb : UEmb _ 𝕄) (rowPts (F := F) c t f) := by
  unfold rowPts; infer_instance

theorem rows_disjoint (t t' : Fin 16) (h : t ≠ t') : Disjoint (rowR t).set (rowR t').set :=
  lead_disjoint (s := S1024x512) (NB := 16) (0 : Fin 2) 64 (fun t => ![64 * t.val, 0]) S64x512.size row_inb (fun _ => rfl) rfl t t' h
theorem rows_cover : Finset.univ.biUnion (fun t : Fin 16 => (rowR t).set) = Finset.univ :=
  lead_cover (s := S1024x512) (NB := 16) (0 : Fin 2) 64 (fun t => ![64 * t.val, 0]) S64x512.size row_inb (fun _ => rfl)
    (by intro b a ha; fin_cases a; · exact absurd rfl ha
        · rfl) rfl
    (by intro a ha; fin_cases a; · exact absurd rfl ha
        · rfl) rfl
theorem slots_disjoint (o o' : Fin 16) (h : o ≠ o') : Disjoint (slotR o).set (slotR o').set :=
  lead_disjoint (s := S16x64x512) (NB := 16) (0 : Fin 3) 1 (fun o => ![o.val, 0, 0]) S1x64x512.size slot_inb (fun o => (Nat.one_mul _).symm) rfl o o' h
theorem slots_cover : Finset.univ.biUnion (fun o : Fin 16 => (slotR o).set) = Finset.univ :=
  lead_cover (s := S16x64x512) (NB := 16) (0 : Fin 3) 1 (fun o => ![o.val, 0, 0]) S1x64x512.size slot_inb (fun o => (Nat.one_mul _).symm)
    (by intro b a ha; fin_cases a; · exact absurd rfl ha
        · rfl
        · rfl) rfl
    (by intro a ha; fin_cases a; · exact absurd rfl ha
        · rfl
        · rfl) rfl

omit [FloatOps F] in
theorem rows_split (c : Dev nD) (f : Buf (Elt F) ((c : Thread nD τ).loc cc0_scratch0)) :
    (((c : Thread nD τ).loc cc0_scratch0) ↦{fullShare} f : sProp 𝕄) = bigSep Finset.univ fun t : Fin 16 => rowPts c t f :=
  pointsTo_blocks (ℓ := (c : Thread nD τ).loc cc0_scratch0) (fun t : Fin 16 => (rowR t).set) rows_disjoint rows_cover f

omit [FloatOps F] in
theorem slots_split (c : Dev nD) (f : Buf (Elt F) ((c : Thread nD τ).loc cc0_scratch1)) :
    (((c : Thread nD τ).loc cc0_scratch1) ↦{fullShare} f : sProp 𝕄) = bigSep Finset.univ fun o : Fin 16 => slotPts c o f :=
  pointsTo_blocks (ℓ := (c : Thread nD τ).loc cc0_scratch1) (fun o : Fin 16 => (slotR o).set) slots_disjoint slots_cover f

omit [FloatOps F] in
theorem slots_join (c : Dev nD) (f₀ : Buf (Elt F) ((c : Thread nD τ).loc cc0_scratch1)) :
    bigSep Finset.univ (fun o : Fin 16 => iprop(∃ f, slotPts c o f)) ⊢ (iprop(∃ g, ((c : Thread nD τ).loc cc0_scratch1) ↦{fullShare} g) : sProp 𝕄) :=
  pointsTo_blocks_join_exists (ℓ := (c : Thread nD τ).loc cc0_scratch1) (fun o : Fin 16 => (slotR o).set) slots_disjoint slots_cover f₀

/-! ### The views' element sets -/

theorem slot_set (o : Fin 16) : (slotM o).view.set = (slotR o).set := by
  exact (View.set_reshape ((View.whole cc0_scratch1).slice (slotR o)) squeezes_S1x64x512_S64x512.numel_eq).trans (View.set_slice_whole cc0_scratch1 (slotR o))

theorem off1_eq (c : Dev nD) (r : Fin 15) : k0_off1 c (BitVec.ofNat 32 (1 + r.val)) = ![64 * (c + r.succ : Fin 16).val, 0] :=
  (k0_off1_eq c r).trans rfl

theorem src_set (c : Dev nD) (r : Fin 15) : (srcM c r).view.set = (rowR (c + r.succ)).set := by
  refine (View.set_slice_whole cc0_scratch0 (Rect.unit (s := S1024x512) (k0_off1 c (BitVec.ofNat 32 (1 + r.val))) S64x512.size (k0_off1_inb c r))).trans ?_
  ext i; rw [Rect.mem_set_unit, Rect.mem_set_unit, off1_eq]; exact Iff.rfl

/-! ### Offsets around the sixteen devices -/

theorem off_back : ∀ c o : Fin 16, (c + o) - o = c := by decide
theorem off_fwd : ∀ c o : Fin 16, (c + o) - c = o := by decide
theorem off_to : ∀ c d : Fin 16, c + (d - c) = d := by decide
theorem off_from : ∀ c o : Fin 16, (c - o) + o = c := by decide
/-- The device at each offset from `c`. -/
def turn (c : Fin 16) : Fin 16 ≃ Fin 16 := ⟨fun o => c + o, fun d => d - c, off_fwd c, off_to c⟩

/-! ### What a transfer leaves -/

theorem slot_emb (o : Fin 16) (x : S64x512.Idx) : (slotM o).view.emb x = ix3 (n0 := 16) (n1 := 64) (n2 := 512) o (x 0) (x 1) := by
  have h : (slotM o).view.emb x = (slotR o).emb (Shape.reshapeEquiv squeezes_S1x64x512_S64x512.numel_eq x) := rfl
  rw [h, ValueIdx.eq_ix2 x]
  erw [ValueIdx.reshapeEquiv_ix2_1ab]
  funext a
  apply Fin.ext
  match a with
  | ⟨0, _⟩ => show o.val + 1 * 0 = o.val; omega
  | ⟨1, _⟩ => show 0 + 1 * (x 0).val = (x 0).val; omega
  | ⟨2, _⟩ => show 0 + 1 * (x 1).val = (x 1).val; omega

theorem src_emb (c : Dev nD) (r : Fin 15) (x : S64x512.Idx) :
    (srcM c r).view.emb x = ix2 (n0 := 1024) (n1 := 512) (rowOf (c + r.succ) (x 0)) (x 1) := by
  funext a
  apply Fin.ext
  have h := off1_eq c r
  match a with
  | ⟨0, _⟩ =>
    show k0_off1 c (BitVec.ofNat 32 (1 + r.val)) 0 + 1 * (x 0).val = 64 * (c + r.succ : Fin 16).val + (x 0).val
    rw [h, Nat.one_mul]; rfl
  | ⟨1, _⟩ =>
    show k0_off1 c (BitVec.ofNat 32 (1 + r.val)) 1 + 1 * (x 1).val = (x 1).val
    rw [h, Nat.one_mul]; exact Nat.zero_add _

theorem slot_written (c : Dev nD) (r : Fin 15) (fd : (cc0_scratch1 : Ref sig .tc).ty.Contents (Elt F))
    (i : (cc0_scratch1 : Ref sig .tc).ty.Idx) (hi : i ∈ (slotM r.succ).view.set) :
    (slotM r.succ).view.write (Elt F) fd ((srcM c r).view.read (Elt F) (part m ρ c)) Finset.univ i = landed m ρ (c + r.succ) i := by
  obtain ⟨x, -, rfl⟩ := Finset.mem_map.mp hi
  rw [View.write_emb_of_mem _ _ (Finset.mem_univ x), View.read_apply, src_emb]
  have e := slot_emb r.succ x
  show part m ρ c _ = landed m ρ (c + r.succ) ((slotM r.succ).view.emb x)
  rw [e]
  have hs : ((c : Fin 16) + r.succ) - r.succ = c := off_back c r.succ
  exact congrArg (fun d : Fin 16 => part m ρ d (ix2 (n0 := 1024) (n1 := 512) (rowOf (c + r.succ) (x 0)) (x 1))) hs.symm

theorem slot_landed (c : Dev nD) (r : Fin 15) (fd : (cc0_scratch1 : Ref sig .tc).ty.Contents (Elt F)) :
    ((slotM r.succ).view.loc ((c + r.succ : Dev nD) : Thread nD τ) ↦[(slotM r.succ).view.set]{fullShare}
        (slotM r.succ).view.write (Elt F) fd ((srcM c r).view.read (Elt F) (part m ρ c)) Finset.univ : sProp 𝕄)
      ⊢ slotPts (c + r.succ) r.succ (landed m ρ (c + r.succ)) := by
  rw [pointsTo_congr (slot_written m ρ c r fd)]
  unfold slotPts
  rw [slot_set]

/-! ## The schedule -/

/-- The offset a semaphore of either array belongs to. -/
def offOf (s : DmaSem sig) : Fin 16 := ⟨(s.val + 10) % 16, Nat.mod_lt _ (by decide)⟩

theorem offOf_send (o : Fin 16) : offOf (sendS o) = o := Fin.ext (by
  show ((sendS o).val + 10) % 16 = o.val
  rw [sendS_val]; omega)
theorem offOf_recv (o : Fin 16) : offOf (recvS o) = o := Fin.ext (by
  show ((recvS o).val + 10) % 16 = o.val
  rw [recvS_val]; omega)

/-- Whether a cell takes part: the barrier's does, and those of the two arrays at offsets 1 to 15. -/
def dutiesOf : SemLoc sig → Finset (Fin 16)
  | .reg _ => Finset.univ
  | .dma s => if 6 ≤ s.val ∧ offOf s ≠ 0 then {0} else ∅
/-- The units of one of its duties. -/
def amountOf : SemLoc sig → ℕ
  | .reg _ => 1
  | .dma _ => N
/-- What duty `d` of device `c`'s cell hands over. -/
def payOf (c : Dev nD) (d : Fin 16) : SemLoc sig → sProp 𝕄
  | .reg _ => iprop(∃ f, slotPts d (d - c) f)
  | .dma s => if s.val < 22 then rowPts c (c + offOf s) (part m ρ c) else slotPts c (offOf s) (landed m ρ c)

def sched : Rounds.Schedule (GSem nD τ sig) (Fin 16) 𝕄 where
  duties g r := if r = 0 ∧ g.1.2 = .tc then dutiesOf g.2 else ∅
  unitless _ := False
  amount g _ _ := amountOf g.2
  payload g _ d := payOf m ρ g.1.1 d g.2
  amount_pos g _ _ _ := by
    show 0 < amountOf g.2
    cases g.2 with
    | reg _ => exact Nat.one_pos
    | dma _ => exact N_pos

instance sched_payload_storable (g : GSem nD τ sig) (r : ℕ) (d : Fin 16) :
    BI.Storable (upEmb : UEmb _ 𝕄) ((sched (F := F) m ρ).payload g r d) := by
  show BI.Storable upEmb (payOf m ρ g.1.1 d g.2)
  cases g.2 with
  | reg _ => unfold payOf; infer_instance
  | dma s => unfold payOf; dsimp only; split <;> infer_instance

section Tables
variable (c : Dev nD)

theorem duties_bar : (sched (F := F) m ρ).duties (barCell c) 0 = Finset.univ := by
  dsimp only [sched]; exact if_pos ⟨rfl, rfl⟩
theorem duties_send (r : Fin 15) : (sched (F := F) m ρ).duties (sendCell c r.succ) 0 = {0} := by
  dsimp only [sched]; rw [if_pos ⟨rfl, rfl⟩]
  exact if_pos ⟨by rw [sendS_val]; omega, by rw [offOf_send]; exact Fin.succ_ne_zero r⟩
theorem duties_recv (r : Fin 15) : (sched (F := F) m ρ).duties (recvCell c r.succ) 0 = {0} := by
  dsimp only [sched]; rw [if_pos ⟨rfl, rfl⟩]
  exact if_pos ⟨by rw [recvS_val]; omega, by rw [offOf_recv]; exact Fin.succ_ne_zero r⟩
theorem duties_send0 (r : ℕ) : (sched (F := F) m ρ).duties (sendCell c 0) r = ∅ := by
  dsimp only [sched]; split
  · unfold dutiesOf; dsimp only; exact if_neg fun h => h.2 (offOf_send 0)
  · rfl
theorem duties_recv0 (r : ℕ) : (sched (F := F) m ρ).duties (recvCell c 0) r = ∅ := by
  dsimp only [sched]; split
  · unfold dutiesOf; dsimp only; exact if_neg fun h => h.2 (offOf_recv 0)
  · rfl
theorem duties_later (g : GSem nD τ sig) : ∀ r, 1 ≤ r → (sched (F := F) m ρ).duties g r = ∅ :=
  fun r hr => by dsimp only [sched]; exact if_neg fun h => by omega

theorem amount_bar (d : Fin 16) : (sched (F := F) m ρ).amount (barCell c) 0 d = 1 := rfl
theorem amount_dma (s : DmaSem sig) (d : Fin 16) : (sched (F := F) m ρ).amount ((c : Thread nD τ), .dma s) 0 d = N := rfl

theorem expect_bar : (sched (F := F) m ρ).expect (barCell c) 0 = 16 := by
  unfold Schedule.expect Schedule.amountOf
  rw [duties_bar, Finset.sum_congr rfl fun d _ => amount_bar m ρ c d, Finset.sum_const, Finset.card_univ, Fintype.card_fin]; rfl
theorem expect_send (r : Fin 15) : (sched (F := F) m ρ).expect (sendCell c r.succ) 0 = N := by
  unfold Schedule.expect Schedule.amountOf; rw [duties_send, Finset.sum_singleton, amount_dma]
theorem expect_recv (r : Fin 15) : (sched (F := F) m ρ).expect (recvCell c r.succ) 0 = N := by
  unfold Schedule.expect Schedule.amountOf; rw [duties_recv, Finset.sum_singleton, amount_dma]

theorem payload_bar (d : Fin 16) : (sched (F := F) m ρ).payload (barCell c) 0 d = iprop(∃ f, slotPts d (d - c) f) := rfl
theorem payload_send (o d : Fin 16) : (sched (F := F) m ρ).payload (sendCell c o) 0 d = rowPts c (c + o) (part m ρ c) := by
  dsimp only [sched]; unfold payOf; dsimp only
  rw [if_pos (by rw [sendS_val]; omega), offOf_send]
theorem payload_recv (o d : Fin 16) : (sched (F := F) m ρ).payload (recvCell c o) 0 d = slotPts c o (landed m ρ c) := by
  dsimp only [sched]; unfold payOf; dsimp only
  rw [if_neg (by rw [recvS_val]; omega), offOf_recv]

/-- The sixteen payloads of a barrier round, sorted by offset: the slot it writes on each device. -/
theorem rest_bar : bigSep ((sched (F := F) m ρ).duties (barCell c) 0 \ ∅) (fun d => (sched (F := F) m ρ).payload (barCell c) 0 d)
    = bigSep Finset.univ fun o : Fin 16 => (iprop(∃ f, slotPts (c + o) o f) : sProp 𝕄) := by
  rw [Finset.sdiff_empty, duties_bar, bigSep_univ_equiv (turn c)]
  refine bigSep_congr fun o _ => ?_
  have hs : ((c : Fin 16) + o) - c = o := off_fwd c o
  exact congrArg (fun d : Fin 16 => (iprop(∃ f, slotPts (c + o) d f) : sProp 𝕄)) hs
theorem rest_send (r : Fin 15) : bigSep ((sched (F := F) m ρ).duties (sendCell c r.succ) 0 \ ∅) (fun d => (sched (F := F) m ρ).payload (sendCell c r.succ) 0 d)
    = rowPts c (c + r.succ) (part m ρ c) := by
  rw [Finset.sdiff_empty, duties_send, bigSep_singleton, payload_send]
theorem rest_recv (r : Fin 15) : bigSep ((sched (F := F) m ρ).duties (recvCell c r.succ) 0 \ ∅) (fun d => (sched (F := F) m ρ).payload (recvCell c r.succ) 0 d)
    = slotPts c r.succ (landed m ρ c) := by
  rw [Finset.sdiff_empty, duties_recv, bigSep_singleton, payload_recv]

end Tables

/-! ## Debts at launch; levels -/

/-- The credits device `c` still owes the receivers from its transfer `k` on (transfer `r` goes to `c + (r + 1)`), -/
def recvDue (c : Dev nD) (k : ℕ) : CellTallies nD τ sig Unit := ∑ r ∈ finFrom 15 k, tallyAt (recvCell (c + r.succ) r.succ) () N
/-- and the barrier units from device `k` on. -/
def barDue (k : ℕ) : CellTallies nD τ sig Unit := ∑ d ∈ finFrom 16 k, tallyAt (barCell d) () 1
/-- Everything it owes at launch. -/
def O₀ (c : Dev nD) : CellTallies nD τ sig Unit := recvDue c 0 + barDue 0

def L (g : GSem nD τ sig) : Finset Unit := if g.1.2 = .tc then {()} else ∅
def lvOf : SemLoc sig → ℕ
  | .reg _ => 1
  | .dma s => if 22 ≤ s.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (o : Fin 16) (u : Unit) : lv (recvCell c o) u = 2 := by
  unfold lv lvOf; dsimp only; exact if_pos (by rw [recvS_val]; omega)
theorem lv_bar (c : Dev nD) (u : Unit) : lv (barCell c) u = 1 := rfl

theorem tally_sum_pos {I : Type} [DecidableEq I] (s : Finset I) (cell : I → GSem nD τ sig) (n : ℕ) {g : GSem nD τ sig} {u : Unit}
    (h : 0 < (∑ i ∈ s, tallyAt (cell i) () n : CellTallies nD τ sig Unit) g u) : ∃ i ∈ s, g = cell i := by
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases e : g = cell a ∧ u = ()
    · exact ⟨a, Finset.mem_insert_self _ _, e.1⟩
    · rw [if_neg e, Nat.zero_add] at h
      obtain ⟨i, hi, hg⟩ := ih h
      exact ⟨i, Finset.mem_insert_of_mem hi, hg⟩

theorem recvDue_pos {c : Dev nD} {k : ℕ} {g : GSem nD τ sig} {u : Unit} (h : 0 < recvDue c k g u) :
    ∃ c' : Dev nD, ∃ o : Fin 16, g = recvCell c' o := by
  obtain ⟨r, -, rfl⟩ := tally_sum_pos _ _ _ h
  exact ⟨_, _, rfl⟩
theorem O₀_pos {c : Dev nD} {g : GSem nD τ sig} {u : Unit} (h : 0 < O₀ c g u) :
    (∃ c' : Dev nD, ∃ o : Fin 16, g = recvCell c' o) ∨ ∃ c' : Dev nD, g = barCell c' := by
  unfold O₀ at h
  rw [Pi.add_apply, Finsupp.add_apply] at h
  rcases Nat.eq_zero_or_pos (recvDue c 0 g u) with h0 | h0
  · rw [h0, Nat.zero_add] at h
    obtain ⟨d, -, rfl⟩ := tally_sum_pos _ _ _ h
    exact .inr ⟨d, rfl⟩
  · exact .inl (recvDue_pos h0)

omit [FloatOps F] in
/-- A wait on a semaphore of level 0 is allowed under everything owed at launch. -/
theorem mayWait_low (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; show lvOf (.dma q) ≤ 0; unfold lvOf; dsimp only; rw [if_neg (by omega)])
      (fun g u hg => by
        rcases O₀_pos hg with ⟨_, _, rfl⟩ | ⟨_, rfl⟩
        · rw [lv_recv]; decide
        · rw [lv_bar]; decide)
  · rw [MayWait_zero]; iintro -; iempintro

omit [FloatOps F] in
/-- At its barrier wait a device owes receivers' credits only. -/
theorem mayWait_bar (c : Dev nD) : (levAts L lv : sProp 𝕄) ⊢ MayWait (c : Thread nD τ) (.reg barS) () (recvDue c 0) :=
  MayOwe.of_cut (L := L) (lev := lv) 1 (fun p hp => by rw [Finset.mem_singleton.mp hp, L_tc]; exact Finset.mem_singleton_self _)
    (fun g u hg => by obtain ⟨_, _, rfl⟩ := recvDue_pos hg; exact Finset.mem_singleton_self _)
    (fun p hp => by rw [Finset.mem_singleton.mp hp]; exact le_refl 1)
    (fun g u hg => by obtain ⟨_, _, rfl⟩ := recvDue_pos hg; rw [lv_recv]; decide)

end Cert.MoeProof
-- ==== Proof.Steps.lean ====
/-
# One step of the exchange at a time

What a device holds between two steps of its body, and the step of each kind: a barrier signal, the barrier wait, a
transfer, the wait for a transfer's source, the wait for a landing, the load of a landed slot.
-/
module

public import proofs.«01_k».proof.Proof.Proto

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.SparseCore.ProtocolKit (finFrom finUpTo bigSep_finFrom_succ bigSep_finUpTo_succ sum_finFrom_succ sum_finFrom_self)

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

/-! ## What is shared -/

/-- Every cell's invariant, at the names `K`, and that every cell has reached its round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

theorem cellInv_at (K : Dev nD × CK → ℕ) (ck : Dev nD × CK) :
    (bigSep Finset.univ fun ck : Dev nD × CK => (cellInv ER (sched m ρ) (K ck) (kcell ck) : sProp 𝕄)) ⊢ cellInv ER (sched m ρ) (K ck) (kcell ck) :=
  bigSep_elim (Finset.mem_univ ck)
theorem round0_at (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m ρ K ⊢ cellInv ER (sched m ρ) (K ck) (kcell ck) := by
  unfold records
  iintro ⟨H, -⟩
  iapply (cellInv_at m ρ K ck); iexact H
theorem reached_at (K : Dev nD × CK → ℕ) (ck : Dev nD × CK) : records m ρ K ⊢ reached ER (kcell ck) 0 := by
  unfold records
  iintro ⟨-, H⟩
  iapply (round0_at ck); iexact H

/-- Device `c` owes `O`, whatever waits it has made. -/
def Ow (c : Dev nD) (O : CellTallies nD τ sig Unit) : sProp 𝕄 := iprop(∃ W, owes (c : Thread nD τ) O W)

/-! ## Between the steps -/

/-- Before signal `k`: the debts left, and for each device from `k` on the right to signal it and the slot it is handed. -/
def SigSt (c : Dev nD) (k : ℕ) : sProp 𝕄 :=
  iprop(Ow c (recvDue c 0 + barDue k)
    ∗ bigSep (finFrom 16 k) fun d : Fin 16 => iprop(dutyTok ER (barCell d) 0 c ∗ ∃ f, slotPts c (c - d) f))

/-- Before transfer `k`: the debts left; for each transfer from `k` on the rights to pay its two cells, its source rows and
    the slot it writes; for each transfer made the credit its send cell is owed. -/
def SendSt (c : Dev nD) (k : ℕ) : sProp 𝕄 :=
  iprop(Ow c (recvDue c k)
    ∗ (bigSep (finFrom 15 k) fun r : Fin 15 => iprop(dutyTok ER (sendCell c r.succ) 0 (0 : Fin 16) ∗ dutyTok ER (recvCell (c + r.succ) r.succ) 0 (0 : Fin 16)
        ∗ rowPts c (c + r.succ) (part m ρ c) ∗ ∃ f, slotPts (c + r.succ) r.succ f))
    ∗ bigSep (finUpTo 15 k) fun r : Fin 15 => cred (tallyAt (sendCell c r.succ) () N))

/-- Before the wait for the source of transfer `k`: credits and positions of the send cells from `k` on, the rows back from
    the transfers before it. -/
def SrcSt (c : Dev nD) (k : ℕ) : sProp 𝕄 :=
  iprop((bigSep (finFrom 15 k) fun r : Fin 15 => iprop(cred (tallyAt (sendCell c r.succ) () N) ∗ atPos ER (sendCell c r.succ) 0 ∅ 0))
    ∗ bigSep (finUpTo 15 k) fun r : Fin 15 => iprop(atPos ER (sendCell c r.succ) 1 ∅ 0 ∗ rowPts c (c + r.succ) (part m ρ c)))

/-- Before the wait for landing `k`: likewise of the receive cells, and the slots landed. -/
def LandSt (c : Dev nD) (k : ℕ) : sProp 𝕄 :=
  iprop((bigSep (finFrom 15 k) fun r : Fin 15 => iprop(cred (tallyAt (recvCell c r.succ) () N) ∗ atPos ER (recvCell c r.succ) 0 ∅ 0))
    ∗ bigSep (finUpTo 15 k) fun r : Fin 15 => iprop(atPos ER (recvCell c r.succ) 1 ∅ 0 ∗ slotPts c r.succ (landed m ρ c)))

/-! ## The steps -/

variable (K : Dev nD × CK → ℕ)

theorem step_signal (c : Dev nD) (k : Fin 16) (n : Dev nD) (hn : n = k) (k' : ℤ) (hk : k' = ((1 : ℕ) : ℤ))
    {α : Type} {Q : α → sProp 𝕄} {kont : PUnit → Prog (TpuEff nD τ sig (Elt F) Λ₀ .tc) α} :
    iprop(records m ρ K ∗ SigSt c k.val)
      ⊢ iprop((SigSt c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS k') kont) Q) := by
  obtain rfl : k = n := hn.symm
  subst hk
  unfold SigSt Ow
  rw [bigSep_finFrom_succ k.isLt]; simp only [Fin.eta]
  iintro ⟨#HR, ⟨%W, HO⟩, ⟨Ht, %f, Hs⟩, Hrest⟩ Hk
  have hO : recvDue c 0 + barDue k.val = (recvDue c 0 + barDue (k.val + 1)) + tallyAt (barCell k) () 1 := by
    unfold barDue; rw [sum_finFrom_succ k.isLt, add_assoc]
  iapply (Rounds.wp_signal 𝒱₀ ER (sched m ρ) (c : Thread nD τ) none (dst := (k : Thread nD τ)) (κ := K (k, .inl ()))
      (r := 0) (d := c) (by rw [duties_bar]; exact Finset.mem_univ _) (amount_bar m ρ k c) () (recvDue c 0 + barDue (k.val + 1))
      hO) $$ [HO Ht Hs]
  · isplitr; · iapply (inv_at m ρ K (k, .inl ())); iexact HR
    isplitl [HO]; · iexact HO
    isplitl [Ht]; · iexact Ht
    isplitl [Hs]; · rw [payload_bar]; iexists f; iexact Hs
    iapply (reached_at m ρ K (k, .inl ())); iexact HR
  iintro HO
  iapply Hk
  isplitl [HO]; · iexists W; iexact HO
  iexact Hrest

theorem step_barrier (c : Dev nD) (k' : ℤ) (hk : k' = ((16 : ℕ) : ℤ))
    {α : Type} {Q : α → sProp 𝕄} {kont : PUnit → Prog (TpuEff nD τ sig (Elt F) Λ₀ .tc) α} :
    iprop(records m ρ K ∗ levAts L lv ∗ SigSt c 16 ∗ cred (tallyAt (barCell c) () 16) ∗ atPos ER (barCell c) 0 ∅ 0)
      ⊢ iprop(((Ow c (recvDue c 0) ∗ atPos ER (barCell c) 1 ∅ 0 ∗ bigSep Finset.univ fun o : Fin 16 => iprop(∃ f, slotPts (c + o) o f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk
  unfold SigSt Ow
  iintro ⟨#HR, #Hlev, ⟨⟨%W, HO⟩, -⟩, Hc, Hat⟩ Hk
  rw [show barDue 16 = 0 from sum_finFrom_self _, add_zero]
  iapply (Rounds.wp_wait_rest_token 𝒱₀ ER (sched m ρ) (c : Thread nD τ) none (κ := K (c, .inl ()))
      (wpE_semWait_eq 𝒱₀ (c : Thread nD τ) none Set.univ) (Set.mem_univ _) () (O := recvDue c 0) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar m ρ c)); iexact Hpay

theorem step_send (c : Dev nD) (r : Fin 15) (n : Dev nD) (hn : n.val = (c.val + r.succ.val) % 16)
    {hsc : (slotM r.succ : Memref sig (Dev.tc n : Thread nD τ).2.kind .vmem S64x512 .bf16).view.ref.isScScratch = false}
    {hsrc : (srcM c r).view.WordExact} {hdst : (slotM r.succ).view.WordExact}
    {hsem : DmaTarget.Typed .vmem (.dma (recvS r.succ)) (.remote (Dev.tc n : Thread nD τ) (slotM r.succ) (.dma (sendS r.succ)) hsc)}
    {α : Type} {Q : α → sProp 𝕄} {kont : PUnit → Prog (TpuEff nD τ sig (Elt F) Λ₀ .tc) α} :
    iprop(records m ρ K ∗ SendSt m ρ c r.val)
      ⊢ iprop((SendSt m ρ c (r.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcM c r) (.remote (Dev.tc n : Thread nD τ) (slotM r.succ) (.dma (sendS r.succ)) hsc) (.dma (recvS r.succ)) hsrc hdst hsem) kont) Q) := by
  obtain rfl : n = c + r.succ := Fin.ext hn
  unfold SendSt Ow
  rw [bigSep_finFrom_succ r.isLt, bigSep_finUpTo_succ r.isLt]; simp only [Fin.eta]
  iintro ⟨#HR, ⟨%W, HO⟩, ⟨⟨Hts, Htr, Hrow, %f, Hs⟩, Hrest⟩, Hdone⟩ Hk
  have hpay₁ : (((srcM c r).view.loc (c : Thread nD τ) ↦[(srcM c r).view.set]{fullShare} part m ρ c) : sProp 𝕄)
      ⊢ (sched m ρ).payload (sendCell c r.succ) 0 0 := by
    rw [payload_send, src_set]; unfold rowPts; exact Entails.rfl
  have hpay₂ : (((slotM r.succ).view.loc ((c + r.succ : Dev nD) : Thread nD τ) ↦[(slotM r.succ).view.set]{fullShare}
        (slotM r.succ).view.write (Elt F) f ((srcM c r).view.read (Elt F) (part m ρ c)) Finset.univ) : sProp 𝕄)
      ⊢ (sched m ρ).payload (recvCell (c + r.succ) r.succ) 0 0 := by
    rw [payload_recv]; exact slot_landed m ρ c r f
  have hO : recvDue c r.val = recvDue c (r.val + 1) + tallyAt (recvCell (c + r.succ) r.succ) () N := by
    unfold recvDue; rw [sum_finFrom_succ r.isLt]
  have hN : (slotM r.succ).view.amount (.dma (recvS r.succ)) = N := slot_credit r.succ
  have hstep := (Rounds.wp_send_pointsTo (defs := defs₀ (F := F)) (Γ := PendingWaitsCtx.empty) 𝒱₀ ER (sched m ρ) (c : Thread nD τ) none (c' := ((c + r.succ : Dev nD) : Thread nD τ))
    (src := srcM c r) (dst := slotM r.succ) (hsc := hsc) (sS := .dma (sendS r.succ)) (sem := .dma (recvS r.succ)) (hsrc := hsrc) (hdst := hdst)
    (hsem := hsem) (k := kont) (Q := Q) (Es := Set.univ) (κ₁ := K (c, .inr (.inl r.succ))) (κ₂ := K (c + r.succ, .inr (.inr r.succ)))
    (q := fullShare) (fs := part m ρ c) (fd := f) (r₁ := 0) (r₂ := 0) (d₁ := 0) (d₂ := 0)
    (by rw [duties_send]; exact Finset.mem_singleton_self _) (by rw [duties_recv]; exact Finset.mem_singleton_self _)
    () () N hN (amount_dma m ρ c _ 0) (amount_dma m ρ (c + r.succ) _ 0) (recvDue c (r.val + 1)) hO (W := W) hpay₁ hpay₂
    (hr := Topo.routes_tc _ _))
  iapply hstep $$ [HO Hts Htr Hrow Hs]
  · isplitr; · iapply (inv_at m ρ K (c, .inr (.inl r.succ))); iexact HR
    isplitr; · iapply (inv_at m ρ K (c + r.succ, .inr (.inr r.succ))); iexact HR
    isplitl [Hrow]; · rw [src_set]; unfold rowPts; iexact Hrow
    isplitl [Hs]; · rw [slot_set]; unfold slotPts; iexact Hs
    isplitl [HO]; · iexact HO
    isplitl [Hts]; · iexact Hts
    isplitr; · iapply (reached_at m ρ K (c, .inr (.inl r.succ))); iexact HR
    isplitl [Htr]; · iexact Htr
    iapply (reached_at m ρ K (c + r.succ, .inr (.inr r.succ))); iexact HR
  iintro ⟨Hc, HO⟩
  iapply Hk
  isplitl [HO]; · iexists W; iexact HO
  isplitl [Hrest]; · iexact Hrest
  isplitl [Hc]; · iexact Hc
  iexact Hdone

theorem step_src (c : Dev nD) (r : Fin 15) {sp' : Space} {other : Memref sig .tc sp' S64x512 .bf16}
    {h₁ : other.view.WordExact} {h₂ : (srcM c r).view.WordExact}
    {α : Type} {Q : α → sProp 𝕄} {kont : PUnit → Prog (TpuEff nD τ sig (Elt F) Λ₀ .tc) α} :
    iprop(records m ρ K ∗ Ow c 0 ∗ SrcSt m ρ c r.val)
      ⊢ iprop(((Ow c 0 ∗ SrcSt m ρ c (r.val + 1)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS r.succ) other (srcM c r) h₁ h₂) kont) Q) := by
  unfold SrcSt Ow
  rw [bigSep_finFrom_succ r.isLt, bigSep_finUpTo_succ r.isLt]; simp only [Fin.eta]
  iintro ⟨#HR, ⟨%W, HO⟩, ⟨⟨Hc, Hat⟩, Hrest⟩, Hdone⟩ Hk
  iapply (Rounds.wp_wait_rest_token 𝒱₀ ER (sched m ρ) (c : Thread nD τ) none (κ := K (c, .inr (.inl r.succ)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, .inr (.inl r.succ))); iexact HR
    isplitl [Hc]; · iexact Hc
    isplitl [HO]; · iexact HO
    isplitr; · rw [MayWait_zero]; iempintro
    iexact Hat
  iintro ⟨HO, Hat, -, Hpay⟩
  ihave Hrow := (Entails.of_eq (rest_send m ρ c r)) $$ Hpay
  iapply Hk
  isplitl [HO]; · iexists _; iexact HO
  isplitl [Hrest]; · iexact Hrest
  isplitl [Hat Hrow]
  · isplitl [Hat]; · iexact Hat
    iexact Hrow
  iexact Hdone

theorem step_land (c : Dev nD) (r : Fin 15) {sp' : Space} {other : Memref sig .tc sp' S64x512 .bf16}
    {h₁ : other.view.WordExact} {h₂ : (slotM r.succ).view.WordExact}
    {α : Type} {Q : α → sProp 𝕄} {kont : PUnit → Prog (TpuEff nD τ sig (Elt F) Λ₀ .tc) α} :
    iprop(records m ρ K ∗ Ow c 0 ∗ LandSt m ρ c r.val)
      ⊢ iprop(((Ow c 0 ∗ LandSt m ρ c (r.val + 1)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS r.succ) other (slotM r.succ) h₁ h₂) kont) Q) := by
  unfold LandSt Ow
  rw [bigSep_finFrom_succ r.isLt, bigSep_finUpTo_succ r.isLt]; simp only [Fin.eta]
  iintro ⟨#HR, ⟨%W, HO⟩, ⟨⟨Hc, Hat⟩, Hrest⟩, Hdone⟩ Hk
  iapply (Rounds.wp_wait_rest_token 𝒱₀ ER (sched m ρ) (c : Thread nD τ) none (κ := K (c, .inr (.inr r.succ)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m ρ K (c, .inr (.inr r.succ))); iexact HR
    isplitl [Hc]; · iexact Hc
    isplitl [HO]; · iexact HO
    isplitr; · rw [MayWait_zero]; iempintro
    iexact Hat
  iintro ⟨HO, Hat, -, Hpay⟩
  ihave Hslot := (Entails.of_eq (rest_recv m ρ c r)) $$ Hpay
  iapply Hk
  isplitl [HO]; · iexists _; iexact HO
  isplitl [Hrest]; · iexact Hrest
  isplitl [Hat Hslot]
  · isplitl [Hat]; · iexact Hat
    iexact Hslot
  iexact Hdone

/-- The value loaded from slot `o` of device `c`'s landing buffer. -/
def slotVal (c : Dev nD) (o : Fin 16) : Vec F S1x64x512 .bf16 := cM.view.readAt (Elt F) (slotR o).toLoadRect (landed m ρ c)

theorem slot_access (o : Fin 16) : (cM.access (slotR o)).set = (slotR o).set := View.set_slice_whole cc0_scratch1 (slotR o)

theorem step_load (c : Dev nD) (r : Fin 15) {hl : cM.view.LoadsAt (slotR r.succ).toLoadRect}
    {α : Type} {Q : α → sProp 𝕄} {kont : Vec F S1x64x512 .bf16 → Prog (TpuEff nD τ sig (Elt F) Λ₀ .tc) α} :
    LandSt m ρ c (r.val + 1)
      ⊢ iprop((LandSt m ρ c (r.val + 1) -∗ wp frame (wpE (defs₀ (F := F)) 𝒱₀ (c : Thread nD τ) none) Set.univ (kont (slotVal m ρ c r.succ)) Q)
          -∗ wp frame (wpE (defs₀ (F := F)) 𝒱₀ (c : Thread nD τ) none) Set.univ (.op (.load cM (slotR r.succ).toLoadRect hl) kont) Q) := by
  unfold LandSt
  rw [bigSep_finUpTo_succ r.isLt]; simp only [Fin.eta]
  unfold slotPts
  iintro ⟨Hrest, ⟨Hat, Hs⟩, Hdone⟩ Hk
  iapply (wp_load_rect 𝒱₀ (c : Thread nD τ) none Set.univ (m := cM) (r := slotR r.succ) (S := (slotR r.succ).set)
    (by rw [slot_access])) $$ Hs
  iintro Hs
  iapply Hk
  isplitl [Hrest]; · iexact Hrest
  isplitl [Hat Hs]
  · isplitl [Hat]; · iexact Hat
    iexact Hs
  iexact Hdone

end Cert.MoeProof
-- ==== Proof.Loads.lean ====
/-
# The last phase, and whole loads and stores

The last phase as one state with a step of each kind, and the loads and stores of whole buffers.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.SparseCore.ProtocolKit (finFrom finUpTo bigSep_finFrom_succ bigSep_finUpTo_succ sum_finFrom_succ sum_finFrom_self)

variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CK → ℕ)

/-- The state of the last phase: nothing owed, the first `a` sources waited for, the first `b` landings waited for. -/
def DrSt (c : Dev nD) (a b : ℕ) : sProp 𝕄 := iprop(Ow c 0 ∗ SrcSt m ρ c a ∗ LandSt m ρ c b)

theorem drain_src (c : Dev nD) (r : Fin 15) (b : ℕ) {sp' : Space} {other : Memref sig .tc sp' S64x512 .bf16}
    {h₁ : other.view.WordExact} {h₂ : (srcM c r).view.WordExact}
    {α : Type} {Q : α → sProp 𝕄} {kont : PUnit → Prog (TpuEff nD τ sig (Elt F) Λ₀ .tc) α} :
    iprop(records m ρ K ∗ DrSt m ρ c r.val b)
      ⊢ iprop((DrSt m ρ c (r.val + 1) b -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS r.succ) other (srcM c r) h₁ h₂) kont) Q) := by
  unfold DrSt
  iintro ⟨#HR, HO, HS, HL⟩ Hk
  iapply (step_src m ρ K c r) $$ [HO HS]
  · isplitr; · iexact HR
    isplitl [HO] <;> iassumption
  iintro ⟨HO, HS⟩
  iapply Hk
  isplitl [HO]; · iexact HO
  isplitl [HS] <;> iassumption

theorem drain_land (c : Dev nD) (r : Fin 15) (a : ℕ) {sp' : Space} {other : Memref sig .tc sp' S64x512 .bf16}
    {h₁ : other.view.WordExact} {h₂ : (slotM r.succ).view.WordExact}
    {α : Type} {Q : α → sProp 𝕄} {kont : PUnit → Prog (TpuEff nD τ sig (Elt F) Λ₀ .tc) α} :
    iprop(records m ρ K ∗ DrSt m ρ c a r.val)
      ⊢ iprop((DrSt m ρ c a (r.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS r.succ) other (slotM r.succ) h₁ h₂) kont) Q) := by
  unfold DrSt
  iintro ⟨#HR, HO, HS, HL⟩ Hk
  iapply (step_land m ρ K c r) $$ [HO HL]
  · isplitr; · iexact HR
    isplitl [HO] <;> iassumption
  iintro ⟨HO, HL⟩
  iapply Hk
  isplitl [HO]; · iexact HO
  isplitl [HS] <;> iassumption

theorem drain_load (c : Dev nD) (r : Fin 15) (a : ℕ) {hl : cM.view.LoadsAt (slotR r.succ).toLoadRect}
    {α : Type} {Q : α → sProp 𝕄} {kont : Vec F S1x64x512 .bf16 → Prog (TpuEff nD τ sig (Elt F) Λ₀ .tc) α} :
    DrSt m ρ c a (r.val + 1)
      ⊢ iprop((DrSt m ρ c a (r.val + 1) -∗ wp frame (wpE (defs₀ (F := F)) 𝒱₀ (c : Thread nD τ) none) Set.univ (kont (slotVal m ρ c r.succ)) Q)
          -∗ wp frame (wpE (defs₀ (F := F)) 𝒱₀ (c : Thread nD τ) none) Set.univ (.op (.load cM (slotR r.succ).toLoadRect hl) kont) Q) := by
  unfold DrSt
  iintro ⟨HO, HS, HL⟩ Hk
  iapply (step_load m ρ c r) $$ HL
  iintro HL
  iapply Hk
  isplitl [HO]; · iexact HO
  isplitl [HS] <;> iassumption

/-! ## Whole loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

abbrev all_x : Rect S1024x256 := Rect.unit (s := S1024x256) ![0, 0] S1024x256.size inb_S1024x256_S1024x256_0_0
theorem load_x (c : Dev nD) (f : (cc0_stg0_0 : Ref sig .tc).ty.Contents (Elt F)) {hl : xM.view.LoadsAt all_x.toLoadRect}
    {α : Type} {Q : α → sProp 𝕄} {kont : Vec F S1024x256 .bf16 → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load xM all_x.toLoadRect hl) kont) Q) := by
  iintro H Hk
  iapply (wp_load 𝒱₀ (c : Thread nD τ) none Set.univ (m := xM) (Finset.subset_univ _)) $$ H
  rw [show xM.view.readAt (Elt F) all_x.toLoadRect f = f from Memref.readAt_unit_zero (Elt F) cc0_stg0_0 hz2 _ f]
  iexact Hk

abbrev all_r : Rect S256x64 := Rect.unit (s := S256x64) ![0, 0] S256x64.size inb_S256x64_S256x64_0_0
theorem load_r (c : Dev nD) (f : (cc0_stg1_0 : Ref sig .tc).ty.Contents (Elt F)) {hl : rM.view.LoadsAt all_r.toLoadRect}
    {α : Type} {Q : α → sProp 𝕄} {kont : Vec F S256x64 .bf16 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load rM all_r.toLoadRect hl) kont) Q) := by
  iintro H Hk
  iapply (wp_load 𝒱₀ (c : Thread nD τ) none Set.univ (m := rM) (Finset.subset_univ _)) $$ H
  rw [show rM.view.readAt (Elt F) all_r.toLoadRect f = f from Memref.readAt_unit_zero (Elt F) cc0_stg1_0 hz2 _ f]
  iexact Hk

abbrev all_i : Rect S1024x1 := Rect.unit (s := S1024x1) ![0, 0] S1024x1.size inb_S1024x1_S1024x1_0_0
theorem load_i (c : Dev nD) (f : (cc0_stg2_0 : Ref sig .tc).ty.Contents (Elt F)) {hl : iM.view.LoadsAt all_i.toLoadRect}
    {α : Type} {Q : α → sProp 𝕄} {kont : Vec F S1024x1 .i32 → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load iM all_i.toLoadRect hl) kont) Q) := by
  iintro H Hk
  iapply (wp_load 𝒱₀ (c : Thread nD τ) none Set.univ (m := iM) (Finset.subset_univ _)) $$ H
  rw [show iM.view.readAt (Elt F) all_i.toLoadRect f = f from Memref.readAt_unit_zero (Elt F) cc0_stg2_0 hz2 _ f]
  iexact Hk

abbrev all_w : Rect S256x512 := Rect.unit (s := S256x512) ![0, 0] S256x512.size inb_S256x512_S256x512_0_0
theorem load_w (c : Dev nD) (f : (cc0_stg4_0 : Ref sig .tc).ty.Contents (Elt F)) {hl : wM.view.LoadsAt all_w.toLoadRect}
    {α : Type} {Q : α → sProp 𝕄} {kont : Vec F S256x512 .bf16 → Prog (TpuEff nD τ sig (Elt F) Λ₀ .tc) α} :
    (((c : Thread nD τ).loc cc0_stg4_0) ↦{fullShare} f : sProp 𝕄)
      ⊢ iprop(((((c : Thread nD τ).loc cc0_stg4_0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load wM all_w.toLoadRect hl) kont) Q) := by
  iintro H Hk
  iapply (wp_load 𝒱₀ (c : Thread nD τ) none Set.univ (m := wM) (Finset.subset_univ _)) $$ H
  rw [show wM.view.readAt (Elt F) all_w.toLoadRect f = f from Memref.readAt_unit_zero (Elt F) cc0_stg4_0 hz2 _ f]
  iexact Hk

abbrev all_o : Rect S64x512 := Rect.unit (s := S64x512) ![0, 0] S64x512.size inb_S64x512_S64x512_0_0
theorem load_o (c : Dev nD) (f : (cc0_stg5_0 : Ref sig .tc).ty.Contents (Elt F)) {hl : oM.view.LoadsAt all_o.toLoadRect}
    {α : Type} {Q : α → sProp 𝕄} {kont : Vec F S64x512 .f32 → Prog (TpuEff nD τ sig (Elt F) Λ₀ .tc) α} :
    (((c : Thread nD τ).loc cc0_stg5_0) ↦{fullShare} f : sProp 𝕄)
      ⊢ iprop(((((c : Thread nD τ).loc cc0_stg5_0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load oM all_o.toLoadRect hl) kont) Q) := by
  iintro H Hk
  iapply (wp_load 𝒱₀ (c : Thread nD τ) none Set.univ (m := oM) (Finset.subset_univ _)) $$ H
  rw [show oM.view.readAt (Elt F) all_o.toLoadRect f = f from Memref.readAt_unit_zero (Elt F) cc0_stg5_0 hz2 _ f]
  iexact Hk

abbrev all_p : Rect S1024x512 := Rect.unit (s := S1024x512) ![0, 0] S1024x512.size inb_S1024x512_S1024x512_0_0
theorem load_p (c : Dev nD) (f : (cc0_scratch0 : Ref sig .tc).ty.Contents (Elt F)) {hl : pM.view.LoadsAt all_p.toLoadRect}
    {α : Type} {Q : α → sProp 𝕄} {kont : Vec F S1024x512 .bf16 → Prog (TpuEff nD τ sig (Elt F) Λ₀ .tc) α} :
    (((c : Thread nD τ).loc cc0_scratch0) ↦{fullShare} f : sProp 𝕄)
      ⊢ iprop(((((c : Thread nD τ).loc cc0_scratch0) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load pM all_p.toLoadRect hl) kont) Q) := by
  iintro H Hk
  iapply (wp_load 𝒱₀ (c : Thread nD τ) none Set.univ (m := pM) (Finset.subset_univ _)) $$ H
  rw [show pM.view.readAt (Elt F) all_p.toLoadRect f = f from Memref.readAt_unit_zero (Elt F) cc0_scratch0 hz2 _ f]
  iexact Hk

theorem store_o (c : Dev nD) (f w : (cc0_stg5_0 : Ref sig .tc).ty.Contents (Elt F))
    {h₁ : (oM.access all_o).Stores Finset.univ} {h₂}
    {α : Type} {Q : α → sProp 𝕄} {kont : PUnit → Prog (TpuEff nD τ sig (Elt F) Λ₀ .tc) α} :
    (((c : Thread nD τ).loc cc0_stg5_0) ↦{fullShare} f : sProp 𝕄)
      ⊢ iprop(((((c : Thread nD τ).loc cc0_stg5_0) ↦{fullShare} w) -∗ wp frame (wpE (defs₀ (F := F)) 𝒱₀ (c : Thread nD τ) none) Set.univ (kont ⟨⟩) Q)
          -∗ wp frame (wpE (defs₀ (F := F)) 𝒱₀ (c : Thread nD τ) none) Set.univ (.op (.store oM all_o w Finset.univ h₁ h₂) kont) Q) := by
  iintro H Hk
  iapply (wp_store 𝒱₀ (c : Thread nD τ) none Set.univ (m := oM) (r := all_o) (Mk := Finset.univ) (Finset.subset_univ _)) $$ H
  rw [show (oM.access all_o : View sig .tc _ _ _).write (Elt F) f w Finset.univ = w from Memref.write_access_unit_zero_univ (Elt F) cc0_stg5_0 hz2 _ f w]
  iexact Hk

theorem store_p (c : Dev nD) (f w : (cc0_scratch0 : Ref sig .tc).ty.Contents (Elt F))
    {h₁ : (pM.access all_p).Stores Finset.univ} {h₂}
    {α : Type} {Q : α → sProp 𝕄} {kont : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} w) -∗ wp frame (wpE (defs₀ (F := F)) 𝒱₀ (c : Thread nD τ) none) Set.univ (kont ⟨⟩) Q)
          -∗ wp frame (wpE (defs₀ (F := F)) 𝒱₀ (c : Thread nD τ) none) Set.univ (.op (.store pM all_p w Finset.univ h₁ h₂) kont) Q) := by
  iintro H Hk
  iapply (wp_store 𝒱₀ (c : Thread nD τ) none Set.univ (m := pM) (r := all_p) (Mk := Finset.univ) (Finset.subset_univ _)) $$ H
  rw [show (pM.access all_p : View sig .tc _ _ _).write (Elt F) f w Finset.univ = w from Memref.write_access_unit_zero_univ (Elt F) cc0_scratch0 hz2 _ f w]
  iexact Hk

end Cert.MoeProof
-- ==== Proof.Parts.lean ====
/-
# The body's parts

The kernel body is printed as twenty-one parts and a remainder. Each lemma takes one part: from what the device holds before
it, to what it holds after it and the values the part passes on.
-/
module

public import proofs.«01_k».proof.Proof.Loads

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.SparseCore.ProtocolKit (finFrom finUpTo bigSep_finFrom_succ bigSep_finUpTo_succ sum_finFrom_succ sum_finFrom_self)

variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CK → ℕ)

theorem amt1 : (1#32 : BitVec 32).toInt = ((1 : ℕ) : ℤ) := by decide
theorem amt16 : (16#32 : BitVec 32).toInt = ((16 : ℕ) : ℤ) := by decide
theorem k0_devF1 : (⟨k0_dev1, k0_dev1_lt⟩ : Dev nD) = ⟨0, by decide⟩ := Fin.ext k0_dev1_eq
theorem k0_devF2 : (⟨k0_dev2, k0_dev2_lt⟩ : Dev nD) = ⟨1, by decide⟩ := Fin.ext k0_dev2_eq
theorem k0_devF3 : (⟨k0_dev3, k0_dev3_lt⟩ : Dev nD) = ⟨2, by decide⟩ := Fin.ext k0_dev3_eq
theorem k0_devF4 : (⟨k0_dev4, k0_dev4_lt⟩ : Dev nD) = ⟨3, by decide⟩ := Fin.ext k0_dev4_eq
theorem k0_devF5 : (⟨k0_dev5, k0_dev5_lt⟩ : Dev nD) = ⟨4, by decide⟩ := Fin.ext k0_dev5_eq
theorem k0_devF6 : (⟨k0_dev6, k0_dev6_lt⟩ : Dev nD) = ⟨5, by decide⟩ := Fin.ext k0_dev6_eq
theorem k0_devF7 : (⟨k0_dev7, k0_dev7_lt⟩ : Dev nD) = ⟨6, by decide⟩ := Fin.ext k0_dev7_eq
theorem k0_devF8 : (⟨k0_dev8, k0_dev8_lt⟩ : Dev nD) = ⟨7, by decide⟩ := Fin.ext k0_dev8_eq
theorem k0_devF9 : (⟨k0_dev9, k0_dev9_lt⟩ : Dev nD) = ⟨8, by decide⟩ := Fin.ext k0_dev9_eq
theorem k0_devF10 : (⟨k0_dev10, k0_dev10_lt⟩ : Dev nD) = ⟨9, by decide⟩ := Fin.ext k0_dev10_eq
theorem k0_devF11 : (⟨k0_dev11, k0_dev11_lt⟩ : Dev nD) = ⟨10, by decide⟩ := Fin.ext k0_dev11_eq
theorem k0_devF12 : (⟨k0_dev12, k0_dev12_lt⟩ : Dev nD) = ⟨11, by decide⟩ := Fin.ext k0_dev12_eq
theorem k0_devF13 : (⟨k0_dev13, k0_dev13_lt⟩ : Dev nD) = ⟨12, by decide⟩ := Fin.ext k0_dev13_eq
theorem k0_devF14 : (⟨k0_dev14, k0_dev14_lt⟩ : Dev nD) = ⟨13, by decide⟩ := Fin.ext k0_dev14_eq
theorem k0_devF15 : (⟨k0_dev15, k0_dev15_lt⟩ : Dev nD) = ⟨14, by decide⟩ := Fin.ext k0_dev15_eq
theorem k0_devF16 : (⟨k0_dev16, k0_dev16_lt⟩ : Dev nD) = ⟨15, by decide⟩ := Fin.ext k0_dev16_eq

/-- Signals to devices 0 to 6. -/
theorem part1_run (c : Dev nD)
    {α : Type} {Q : α → sProp 𝕄} {kont : (Σ' (d0 : Dev nD) (v2 : BitVec 32) (v3 : Sems sig S_), BitVec 32) → Prog (TpuEff nD τ sig (Elt F) Λ₀ .tc) α} :
    iprop(records m ρ K ∗ SigSt c 0)
      ⊢ iprop((∀ v : BitVec 32, SigSt c 7 -∗ wp frame (wpE (defs₀ (F := F)) 𝒱₀ (c : Thread nD τ) none) Set.univ (kont ⟨c, Scalar.remsi (Scalar.divsi (Dev.word c) 1#32) 16#32, (SemArray.scalar (sig.barrier 0 rfl)), v⟩) Q)
          -∗ wp frame (wpE (defs₀ (F := F)) 𝒱₀ (c : Thread nD τ) none) Set.univ (k0_part1 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 >>= kont) Q) := by
  simp only [k0_part1_eq_skeleton]; unfold k0_part1_skel
  simp only [semSignalWord, semWaitWord, Prog.lift, Prog.bind_op, Prog.bind_ret, Prog.pure_eq_ret, wp_deviceId]
  iintro ⟨#HR, H⟩ Hk
  iapply (step_signal m ρ K c ⟨0, by decide⟩ _ k0_devF1 _ amt1) $$ [H]
  · isplitr; · iexact HR
    iexact H
  iintro H
  iapply (step_signal m ρ K c ⟨1, by decide⟩ _ k0_devF2 _ amt1) $$ [H]
  · isplitr; · iexact HR
    iexact H
  iintro H
  iapply (step_signal m ρ K c ⟨2, by decide⟩ _ k0_devF3 _ amt1) $$ [H]
  · isplitr; · iexact HR
    iexact H
  iintro H
  iapply (step_signal m ρ K c ⟨3, by decide⟩ _ k0_devF4 _ amt1) $$ [H]
  · isplitr; · iexact HR
    iexact H
  iintro H
  iapply (step_signal m ρ K c ⟨4, by decide⟩ _ k0_devF5 _ amt1) $$ [H]
  · isplitr; · iexact HR
    iexact H
  iintro H
  iapply (step_signal m ρ K c ⟨5, by decide⟩ _ k0_devF6 _ amt1) $$ [H]
  · isplitr; · iexact HR
    iexact H
  iintro H
  iapply (step_signal m ρ K c ⟨6, by decide⟩ _ k0_devF7 _ amt1) $$ [H]
  · isplitr; · iexact HR
    iexact H
  iintro H
  iapply Hk; iexact H

/-- Signals to devices 7 to 15. -/
theorem part2_run (c : Dev nD) (v18 : BitVec 32)
    {α : Type} {Q : α → sProp 𝕄} {kont : (PUnit) → Prog (TpuEff nD τ sig (Elt F) Λ₀ .tc) α} :
    iprop(records m ρ K ∗ SigSt c 7)
      ⊢ iprop((SigSt c 16 -∗ wp frame (wpE (defs₀ (F := F)) 𝒱₀ (c : Thread nD τ) none) Set.univ (kont ⟨⟩) Q)
          -∗ wp frame (wpE (defs₀ (F := F)) 𝒱₀ (c : Thread nD τ) none) Set.univ (k0_part2 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 (SemArray.scalar (sig.barrier 0 rfl)) v18 >>= kont) Q) := by
  simp only [k0_part2_eq_skeleton]; unfold k0_part2_skel
  simp only [semSignalWord, semWaitWord, Prog.lift, Prog.bind_op, Prog.bind_ret, Prog.pure_eq_ret, wp_deviceId]
  iintro ⟨#HR, H⟩ Hk
  iapply (step_signal m ρ K c ⟨7, by decide⟩ _ k0_devF8 _ amt1) $$ [H]
  · isplitr; · iexact HR
    iexact H
  iintro H
  iapply (step_signal m ρ K c ⟨8, by decide⟩ _ k0_devF9 _ amt1) $$ [H]
  · isplitr; · iexact HR
    iexact H
  iintro H
  iapply (step_signal m ρ K c ⟨9, by decide⟩ _ k0_devF10 _ amt1) $$ [H]
  · isplitr; · iexact HR
    iexact H
  iintro H
  iapply (step_signal m ρ K c ⟨10, by decide⟩ _ k0_devF11 _ amt1) $$ [H]
  · isplitr; · iexact HR
    iexact H
  iintro H
  iapply (step_signal m ρ K c ⟨11, by decide⟩ _ k0_devF12 _ amt1) $$ [H]
  · isplitr; · iexact HR
    iexact H
  iintro H
  iapply (step_signal m ρ K c ⟨12, by decide⟩ _ k0_devF13 _ amt1) $$ [H]
  · isplitr; · iexact HR
    iexact H
  iintro H
  iapply (step_signal m ρ K c ⟨13, by decide⟩ _ k0_devF14 _ amt1) $$ [H]
  · isplitr; · iexact HR
    iexact H
  iintro H
  iapply (step_signal m ρ K c ⟨14, by decide⟩ _ k0_devF15 _ amt1) $$ [H]
  · isplitr; · iexact HR
    iexact H
  iintro H
  iapply (step_signal m ρ K c ⟨15, by decide⟩ _ k0_devF16 _ amt1) $$ [H]
  · isplitr; · iexact HR
    iexact H
  iintro H
  iapply Hk; iexact H

theorem load_e (c : Dev nD) (o : Fin 3 → Nat) (h : ∀ a, o a + S1x256x512.size a ≤ S4x256x512.size a)
    {hl : eM.view.LoadsAt (Rect.unit (s := S4x256x512) o S1x256x512.size h).toLoadRect}
    {α : Type} {Q : α → sProp 𝕄} {kont : Vec F S1x256x512 .bf16 → Prog (TpuEff nD τ sig (Elt F) Λ₀ .tc) α} :
    ((((c : Thread nD τ).loc cc0_stg3_0) ↦{fullShare} estg m ρ c) : sProp 𝕄)
      ⊢ iprop(((((c : Thread nD τ).loc cc0_stg3_0) ↦{fullShare} estg m ρ c) -∗ wp frame (wpE (defs₀ (F := F)) 𝒱₀ (c : Thread nD τ) none) Set.univ (kont (ew (estg m ρ c) o h)) Q)
          -∗ wp frame (wpE (defs₀ (F := F)) 𝒱₀ (c : Thread nD τ) none) Set.univ (.op (.load eM (Rect.unit (s := S4x256x512) o S1x256x512.size h).toLoadRect hl) kont) Q) :=
  wp_load 𝒱₀ (c : Thread nD τ) none Set.univ (m := eM) (Finset.subset_univ _)

/-- The barrier wait and the loads of the inputs. -/
theorem part3_run (c : Dev nD) (v2 : BitVec 32)
    {α : Type} {Q : α → sProp 𝕄} {kont : (Σ' (v37 : FVec F S1024x256 .bf16) (v51 : IVec S1024x1 32) (v58 : FVec F S1024x1 .f32) (v71 : FVec F S1024x512 .f32) (v72 : BitVec 32), BitVec 32) → Prog (TpuEff nD τ sig (Elt F) Λ₀ .tc) α} :
    iprop(records m ρ K ∗ levAts L lv ∗ SigSt c 16 ∗ cred (tallyAt (barCell c) () 16) ∗ atPos ER (barCell c) 0 ∅ 0 ∗ (((c : Thread nD τ).loc cc0_stg0_0) ↦{fullShare} xstg m ρ c) ∗ (((c : Thread nD τ).loc cc0_stg1_0) ↦{fullShare} rstg m ρ c) ∗ (((c : Thread nD τ).loc cc0_stg2_0) ↦{fullShare} istg m ρ c) ∗ (((c : Thread nD τ).loc cc0_stg3_0) ↦{fullShare} estg m ρ c))
      ⊢ iprop(((Ow c (recvDue c 0) ∗ atPos ER (barCell c) 1 ∅ 0 ∗ (bigSep Finset.univ fun o : Fin 16 => iprop(∃ f, slotPts (c + o) o f)) ∗ (((c : Thread nD τ).loc cc0_stg0_0) ↦{fullShare} xstg m ρ c) ∗ (((c : Thread nD τ).loc cc0_stg1_0) ↦{fullShare} rstg m ρ c) ∗ (((c : Thread nD τ).loc cc0_stg2_0) ↦{fullShare} istg m ρ c) ∗ (((c : Thread nD τ).loc cc0_stg3_0) ↦{fullShare} estg m ρ c)) -∗ wp frame (wpE (defs₀ (F := F)) 𝒱₀ (c : Thread nD τ) none) Set.univ (kont ⟨k0_pay2 (xstg m ρ c), k0_pay3 (istg m ρ c), k0_pay4 (xstg m ρ c) (rstg m ρ c) (istg m ρ c), k0_pay5 v2 (xstg m ρ c) (rstg m ρ c) (istg m ρ c) (ew (estg m ρ c) ![0, 0, 0] inb_S4x256x512_S1x256x512_0_0_0), Scalar.muli 4#32 v2, 1#32⟩) Q)
          -∗ wp frame (wpE (defs₀ (F := F)) 𝒱₀ (c : Thread nD τ) none) Set.univ (k0_part3 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 v2 (SemArray.scalar (sig.barrier 0 rfl)) >>= kont) Q) := by
  simp only [k0_part3_eq_skeleton]; unfold k0_part3_skel
  simp only [semSignalWord, semWaitWord, Prog.lift, Prog.bind_op, Prog.bind_ret, Prog.pure_eq_ret, wp_deviceId]
  iintro ⟨#HR, #Hlev, H, Hc, Hat, Hx, Hr, Hi, He⟩ Hk
  iapply (step_barrier m ρ K c _ amt16) $$ [H Hc Hat]
  · isplitr; · iexact HR
    isplitr; · iexact Hlev
    isplitl [H]; · iexact H
    isplitl [Hc] <;> iassumption
  iintro ⟨HO, Hat, Hsl⟩
  iapply (load_x c) $$ Hx; iintro Hx
  iapply (load_r c) $$ Hr; iintro Hr
  iapply (load_i c) $$ Hi; iintro Hi
  iapply (load_e m ρ c ![0, 0, 0] inb_S4x256x512_S1x256x512_0_0_0) $$ He; iintro He
  iapply Hk
  isplitl [HO]; · iexact HO
  isplitl [Hat]; · iexact Hat
  isplitl [Hsl]; · iexact Hsl
  isplitl [Hx]; · iexact Hx
  isplitl [Hr]; · iexact Hr
  isplitl [Hi] <;> iassumption

/-- The loads of the remaining experts' weights. -/
theorem part4_run (c : Dev nD) (v2 : BitVec 32) (v37 : FVec F S1024x256 .bf16) (v51 : IVec S1024x1 32) (v58 : FVec F S1024x1 .f32) (v71 : FVec F S1024x512 .f32) (v72 c1 : BitVec 32) (f : (cc0_scratch0 : Ref sig .tc).ty.Contents (Elt F))
    {α : Type} {Q : α → sProp 𝕄} {kont : (FVec F S1024x512 .bf16) → Prog (TpuEff nD τ sig (Elt F) Λ₀ .tc) α} :
    iprop(records m ρ K ∗ (((c : Thread nD τ).loc cc0_stg3_0) ↦{fullShare} estg m ρ c) ∗ (((c : Thread nD τ).loc cc0_scratch0) ↦{fullShare} f))
      ⊢ iprop((((((c : Thread nD τ).loc cc0_stg3_0) ↦{fullShare} estg m ρ c) ∗ (((c : Thread nD τ).loc cc0_scratch0) ↦{fullShare} f)) -∗ wp frame (wpE (defs₀ (F := F)) 𝒱₀ (c : Thread nD τ) none) Set.univ (kont (k0_pay6 v2 v37 v51 v58 v71 v72 c1 (ew (estg m ρ c) ![1, 0, 0] inb_S4x256x512_S1x256x512_1_0_0) (ew (estg m ρ c) ![2, 0, 0] inb_S4x256x512_S1x256x512_2_0_0) (ew (estg m ρ c) ![3, 0, 0] inb_S4x256x512_S1x256x512_3_0_0))) Q)
          -∗ wp frame (wpE (defs₀ (F := F)) 𝒱₀ (c : Thread nD τ) none) Set.univ (k0_part4 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 v2 v37 v51 v58 v71 v72 c1 >>= kont) Q) := by
  simp only [k0_part4_eq_skeleton]; unfold k0_part4_skel
  simp only [semSignalWord, semWaitWord, Prog.lift, Prog.bind_op, Prog.bind_ret, Prog.pure_eq_ret, wp_deviceId]
  iintro ⟨#HR, He, Hp⟩ Hk
  iapply (load_e m ρ c ![1, 0, 0] inb_S4x256x512_S1x256x512_1_0_0) $$ He; iintro He
  iapply (load_e m ρ c ![2, 0, 0] inb_S4x256x512_S1x256x512_2_0_0) $$ He; iintro He
  iapply (load_e m ρ c ![3, 0, 0] inb_S4x256x512_S1x256x512_3_0_0) $$ He; iintro He
  iapply (load_p c) $$ Hp; iintro Hp
  iapply Hk
  isplitl [He] <;> iassumption

/-- The store of the partial product and the first two transfers. -/
theorem part5_run (c : Dev nD) (v2 : BitVec 32) (f v111 : (cc0_scratch0 : Ref sig .tc).ty.Contents (Elt F)) (R : sProp 𝕄)
    {α : Type} {Q : α → sProp 𝕄} {kont : (BitVec 32) → Prog (TpuEff nD τ sig (Elt F) Λ₀ .tc) α} :
    iprop(records m ρ K ∗ (((c : Thread nD τ).loc cc0_scratch0) ↦{fullShare} f) ∗ ((((c : Thread nD τ).loc cc0_scratch0) ↦{fullShare} v111) -∗ SendSt m ρ c 0 ∗ R))
      ⊢ iprop((∀ v : BitVec 32, (SendSt m ρ c 2 ∗ R) -∗ wp frame (wpE (defs₀ (F := F)) 𝒱₀ (c : Thread nD τ) none) Set.univ (kont v) Q)
          -∗ wp frame (wpE (defs₀ (F := F)) 𝒱₀ (c : Thread nD τ) none) Set.univ (k0_part5 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 v111 >>= kont) Q) := by
  simp only [k0_part5_eq_skeleton]; unfold k0_part5_skel
  simp only [semSignalWord, semWaitWord, Prog.lift, Prog.bind_op, Prog.bind_ret, Prog.pure_eq_ret, wp_deviceId]
  iintro ⟨#HR, Hp, Hs⟩ Hk
  iapply (store_p c f v111) $$ Hp; iintro Hp
  ihave Hp := Hs $$ Hp
  icases Hp with ⟨H, Hrest⟩
  iapply (step_send m ρ K c ⟨0, by decide⟩ _ (k0_dev17_eq c)) $$ [H]
  · isplitr; · iexact HR
    iexact H
  iintro H
  iapply (step_send m ρ K c ⟨1, by decide⟩ _ (k0_dev18_eq c)) $$ [H]
  · isplitr; · iexact HR
    iexact H
  iintro H
  iapply Hk
  isplitl [H] <;> iassumption

/-- Transfers 3 to 4. -/
theorem part6_run (c : Dev nD) (v2 : BitVec 32) (v0 : BitVec 32)
    {α : Type} {Q : α → sProp 𝕄} {kont : (PUnit) → Prog (TpuEff nD τ sig (Elt F) Λ₀ .tc) α} :
    iprop(records m ρ K ∗ SendSt m ρ c 2)
      ⊢ iprop((SendSt m ρ c 4 -∗ wp frame (wpE (defs₀ (F := F)) 𝒱₀ (c : Thread nD τ) none) Set.univ (kont ⟨⟩) Q)
          -∗ wp frame (wpE (defs₀ (F := F)) 𝒱₀ (c : Thread nD τ) none) Set.univ (k0_part6 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 v0 >>= kont) Q) := by
  simp only [k0_part6_eq_skeleton]; unfold k0_part6_skel
  simp only [semSignalWord, semWaitWord, Prog.lift, Prog.bind_op, Prog.bind_ret, Prog.pure_eq_ret, wp_deviceId]
  iintro ⟨#HR, H⟩ Hk
  iapply (step_send m ρ K c ⟨2, by decide⟩ _ (k0_dev19_eq c)) $$ [H]
  · isplitr; · iexact HR
    iexact H
  iintro H
  iapply (step_send m ρ K c ⟨3, by decide⟩ _ (k0_dev20_eq c)) $$ [H]
  · isplitr; · iexact HR
    iexact H
  iintro H
  iapply Hk; iexact H

/-- Transfers 5 to 7. -/
theorem part7_run (c : Dev nD) (v2 : BitVec 32)
    {α : Type} {Q : α → sProp 𝕄} {kont : (BitVec 32) → Prog (TpuEff nD τ sig (Elt F) Λ₀ .tc) α} :
    iprop(records m ρ K ∗ SendSt m ρ c 4)
      ⊢ iprop((∀ v : BitVec 32, SendSt m ρ c 7 -∗ wp frame (wpE (defs₀ (F := F)) 𝒱₀ (c : Thread nD τ) none) Set.univ (kont v) Q)
          -∗ wp frame (wpE (defs₀ (F := F)) 𝒱₀ (c : Thread nD τ) none) Set.univ (k0_part7 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 >>= kont) Q) := by
  simp only [k0_part7_eq_skeleton]; unfold k0_part7_skel
  simp only [semSignalWord, semWaitWord, Prog.lift, Prog.bind_op, Prog.bind_ret, Prog.pure_eq_ret, wp_deviceId]
  iintro ⟨#HR, H⟩ Hk
  iapply (step_send m ρ K c ⟨4, by decide⟩ _ (k0_dev21_eq c)) $$ [H]
  · isplitr; · iexact HR
    iexact H
  iintro H
  iapply (step_send m ρ K c ⟨5, by decide⟩ _ (k0_dev22_eq c)) $$ [H]
  · isplitr; · iexact HR
    iexact H
  iintro H
  iapply (step_send m ρ K c ⟨6, by decide⟩ _ (k0_dev23_eq c)) $$ [H]
  · isplitr; · iexact HR
    iexact H
  iintro H
  iapply Hk; iexact H

/-- Transfers 8 to 9. -/
theorem part8_run (c : Dev nD) (v2 : BitVec 32) (v0 : BitVec 32)
    {α : Type} {Q : α → sProp 𝕄} {kont : (PUnit) → Prog (TpuEff nD τ sig (Elt F) Λ₀ .tc) α} :
    iprop(records m ρ K ∗ SendSt m ρ c 7)
      ⊢ iprop((SendSt m ρ c 9 -∗ wp frame (wpE (defs₀ (F := F)) 𝒱₀ (c : Thread nD τ) none) Set.univ (kont ⟨⟩) Q)
          -∗ wp frame (wpE (defs₀ (F := F)) 𝒱₀ (c : Thread nD τ) none) Set.univ (k0_part8 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 v0 >>= kont) Q) := by
  simp only [k0_part8_eq_skeleton]; unfold k0_part8_skel
  simp only [semSignalWord, semWaitWord, Prog.lift, Prog.bind_op, Prog.bind_ret, Prog.pure_eq_ret, wp_deviceId]
  iintro ⟨#HR, H⟩ Hk
  iapply (step_send m ρ K c ⟨7, by decide⟩ _ (k0_dev24_eq c)) $$ [H]
  · isplitr; · iexact HR
    iexact H
  iintro H
  iapply (step_send m ρ K c ⟨8, by decide⟩ _ (k0_dev25_eq c)) $$ [H]
  · isplitr; · iexact HR
    iexact H
  iintro H
  iapply Hk; iexact H

/-- Transfers 10 to 12. -/
theorem part9_run (c : Dev nD) (v2 : BitVec 32)
    {α : Type} {Q : α → sProp 𝕄} {kont : (BitVec 32) → Prog (TpuEff nD τ sig (Elt F) Λ₀ .tc) α} :
    iprop(records m ρ K ∗ SendSt m ρ c 9)
      ⊢ iprop((∀ v : BitVec 32, SendSt m ρ c 12 -∗ wp frame (wpE (defs₀ (F := F)) 𝒱₀ (c : Thread nD τ) none) Set.univ (kont v) Q)
          -∗ wp frame (wpE (defs₀ (F := F)) 𝒱₀ (c : Thread nD τ) none) Set.univ (k0_part9 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 >>= kont) Q) := by
  simp only [k0_part9_eq_skeleton]; unfold k0_part9_skel
  simp only [semSignalWord, semWaitWord, Prog.lift, Prog.bind_op, Prog.bind_ret, Prog.pure_eq_ret, wp_deviceId]
  iintro ⟨#HR, H⟩ Hk
  iapply (step_send m ρ K c ⟨9, by decide⟩ _ (k0_dev26_eq c)) $$ [H]
  · isplitr; · iexact HR
    iexact H
  iintro H
  iapply (step_send m ρ K c ⟨10, by decide⟩ _ (k0_dev27_eq c)) $$ [H]
  · isplitr; · iexact HR
    iexact H
  iintro H
  iapply (step_send m ρ K c ⟨11, by decide⟩ _ (k0_dev28_eq c)) $$ [H]
  · isplitr; · iexact HR
    iexact H
  iintro H
  iapply Hk; iexact H

/-- Transfers 13 to 14. -/
theorem part10_run (c : Dev nD) (v2 : BitVec 32) (v0 : BitVec 32)
    {α : Type} {Q : α → sProp 𝕄} {kont : (PUnit) → Prog (TpuEff nD τ sig (Elt F) Λ₀ .tc) α} :
    iprop(records m ρ K ∗ SendSt m ρ c 12)
      ⊢ iprop((SendSt m ρ c 14 -∗ wp frame (wpE (defs₀ (F := F)) 𝒱₀ (c : Thread nD τ) none) Set.univ (kont ⟨⟩) Q)
          -∗ wp frame (wpE (defs₀ (F := F)) 𝒱₀ (c : Thread nD τ) none) Set.univ (k0_part10 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 v0 >>= kont) Q) := by
  simp only [k0_part10_eq_skeleton]; unfold k0_part10_skel
  simp only [semSignalWord, semWaitWord, Prog.lift, Prog.bind_op, Prog.bind_ret, Prog.pure_eq_ret, wp_deviceId]
  iintro ⟨#HR, H⟩ Hk
  iapply (step_send m ρ K c ⟨12, by decide⟩ _ (k0_dev29_eq c)) $$ [H]
  · isplitr; · iexact HR
    iexact H
  iintro H
  iapply (step_send m ρ K c ⟨13, by decide⟩ _ (k0_dev30_eq c)) $$ [H]
  · isplitr; · iexact HR
    iexact H
  iintro H
  iapply Hk; iexact H

/-- The rows of `x` that device `c` keeps, and its own rows of its partial product. -/
def xrow (c : Dev nD) : Vec F S64x256 .bf16 :=
  xM.view.readAt (Elt F) (Rect.unit (s := S1024x256) (k0_off2 c) S64x256.size (k0_off2_inb c)).toLoadRect (xstg m ρ c)
def ownrow (c : Dev nD) : Vec F S64x512 .bf16 :=
  pM.view.readAt (Elt F) (Rect.unit (s := S1024x512) (k0_off3 c) S64x512.size (k0_off3_inb c)).toLoadRect (part m ρ c)

theorem own_access (c : Dev nD) : (pM.access (Rect.unit (s := S1024x512) (k0_off3 c) S64x512.size (k0_off3_inb c))).set = (rowR c).set := by
  refine (View.set_slice_whole cc0_scratch0 (Rect.unit (s := S1024x512) (k0_off3 c) S64x512.size (k0_off3_inb c))).trans ?_
  ext i; rw [Rect.mem_set_unit, Rect.mem_set_unit, k0_off3_eq]; exact Iff.rfl

theorem load_own (c : Dev nD) {hl : pM.view.LoadsAt (Rect.unit (s := S1024x512) (k0_off3 c) S64x512.size (k0_off3_inb c)).toLoadRect}
    {α : Type} {Q : α → sProp 𝕄} {kont : Vec F S64x512 .bf16 → Prog (TpuEff nD τ sig (Elt F) Λ₀ .tc) α} :
    rowPts c c (part m ρ c)
      ⊢ iprop((rowPts c c (part m ρ c) -∗ wp frame (wpE (defs₀ (F := F)) 𝒱₀ (c : Thread nD τ) none) Set.univ (kont (ownrow m ρ c)) Q)
          -∗ wp frame (wpE (defs₀ (F := F)) 𝒱₀ (c : Thread nD τ) none) Set.univ (.op (.load pM (Rect.unit (s := S1024x512) (k0_off3 c) S64x512.size (k0_off3_inb c)).toLoadRect hl) kont) Q) := by
  unfold rowPts
  exact wp_load_rect 𝒱₀ (c : Thread nD τ) none Set.univ (m := pM) (r := Rect.unit (s := S1024x512) (k0_off3 c) S64x512.size (k0_off3_inb c))
    (by rw [own_access])

/-- The last transfer, the loads of the own rows, and the first landing. -/
theorem part11_run (c : Dev nD) (v2 : BitVec 32)
    {α : Type} {Q : α → sProp 𝕄} {kont : (Σ' (v303 : FVec F S64x512 .f32), FVec F S64x512 .bf16) → Prog (TpuEff nD τ sig (Elt F) Λ₀ .tc) α} :
    iprop(records m ρ K ∗ SendSt m ρ c 14 ∗ (SendSt m ρ c 15 -∗ DrSt m ρ c 0 0) ∗ (((c : Thread nD τ).loc cc0_stg0_0) ↦{fullShare} xstg m ρ c) ∗ (((c : Thread nD τ).loc cc0_stg4_0) ↦{fullShare} wstg m ρ c) ∗ rowPts c c (part m ρ c))
      ⊢ iprop(((DrSt m ρ c 1 1 ∗ (((c : Thread nD τ).loc cc0_stg0_0) ↦{fullShare} xstg m ρ c) ∗ (((c : Thread nD τ).loc cc0_stg4_0) ↦{fullShare} wstg m ρ c) ∗ rowPts c c (part m ρ c)) -∗ wp frame (wpE (defs₀ (F := F)) 𝒱₀ (c : Thread nD τ) none) Set.univ (kont ⟨k0_pay7 (xrow m ρ c) (wstg m ρ c) (ownrow m ρ c), k0_pay8 (slotVal m ρ c (Fin.succ ⟨0, by decide⟩))⟩) Q)
          -∗ wp frame (wpE (defs₀ (F := F)) 𝒱₀ (c : Thread nD τ) none) Set.univ (k0_part11 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 >>= kont) Q) := by
  simp only [k0_part11_eq_skeleton]; unfold k0_part11_skel
  simp only [semSignalWord, semWaitWord, Prog.lift, Prog.bind_op, Prog.bind_ret, Prog.pure_eq_ret, wp_deviceId]
  iintro ⟨#HR, H, Hd, Hx, Hw, Hrow⟩ Hk
  iapply (step_send m ρ K c ⟨14, by decide⟩ _ (k0_dev31_eq c)) $$ [H]
  · isplitr; · iexact HR
    iexact H
  iintro H
  ihave H := Hd $$ H
  iapply (wp_load 𝒱₀ (c : Thread nD τ) none Set.univ (m := xM) (Finset.subset_univ _)) $$ Hx; iintro Hx
  iapply (load_w c) $$ Hw; iintro Hw
  iapply (load_own m ρ c) $$ Hrow; iintro Hrow
  iapply (drain_src m ρ K c ⟨0, by decide⟩ 0) $$ [H]
  · isplitr; · iexact HR
    iexact H
  iintro H
  iapply (drain_land m ρ K c ⟨0, by decide⟩ 1) $$ [H]
  · isplitr; · iexact HR
    iexact H
  iintro H
  iapply (drain_load m ρ c ⟨0, by decide⟩ 1) $$ [H]
  · iexact H
  iintro H
  iapply Hk
  isplitl [H]; · iexact H
  isplitl [Hx]; · iexact Hx
  isplitl [Hw] <;> iassumption

/-- Landings up to 2, sources up to 2. -/
theorem part12_run (c : Dev nD) (v2 : BitVec 32) (a : FVec F S64x512 .f32) (b : FVec F S64x512 .bf16)
    {α : Type} {Q : α → sProp 𝕄} {kont : (Σ' (v341 : FVec F S64x512 .f32), BitVec 32) → Prog (TpuEff nD τ sig (Elt F) Λ₀ .tc) α} :
    iprop(records m ρ K ∗ DrSt m ρ c 1 1)
      ⊢ iprop((∀ v : BitVec 32, DrSt m ρ c 2 2 -∗ wp frame (wpE (defs₀ (F := F)) 𝒱₀ (c : Thread nD τ) none) Set.univ (kont ⟨k0_pay9 a b (slotVal m ρ c (Fin.succ ⟨1, by decide⟩)), v⟩) Q)
          -∗ wp frame (wpE (defs₀ (F := F)) 𝒱₀ (c : Thread nD τ) none) Set.univ (k0_part12 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a b >>= kont) Q) := by
  simp only [k0_part12_eq_skeleton]; unfold k0_part12_skel
  simp only [semSignalWord, semWaitWord, Prog.lift, Prog.bind_op, Prog.bind_ret, Prog.pure_eq_ret, wp_deviceId]
  iintro ⟨#HR, H⟩ Hk
  iapply (drain_src m ρ K c ⟨1, by decide⟩ 1) $$ [H]
  · isplitr; · iexact HR
    iexact H
  iintro H
  iapply (drain_land m ρ K c ⟨1, by decide⟩ 2) $$ [H]
  · isplitr; · iexact HR
    iexact H
  iintro H
  iapply (drain_load m ρ c ⟨1, by decide⟩ 2) $$ [H]
  · iexact H
  iintro H
  iapply Hk; iexact H

/-- Landings up to 3, sources up to 4. -/
theorem part13_run (c : Dev nD) (v2 : BitVec 32) (a : FVec F S64x512 .f32) (w : BitVec 32)
    {α : Type} {Q : α → sProp 𝕄} {kont : (FVec F S64x512 .f32) → Prog (TpuEff nD τ sig (Elt F) Λ₀ .tc) α} :
    iprop(records m ρ K ∗ DrSt m ρ c 2 2)
      ⊢ iprop((DrSt m ρ c 4 3 -∗ wp frame (wpE (defs₀ (F := F)) 𝒱₀ (c : Thread nD τ) none) Set.univ (kont (k0_pay10 a (slotVal m ρ c (Fin.succ ⟨2, by decide⟩)))) Q)
          -∗ wp frame (wpE (defs₀ (F := F)) 𝒱₀ (c : Thread nD τ) none) Set.univ (k0_part13 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a w >>= kont) Q) := by
  simp only [k0_part13_eq_skeleton]; unfold k0_part13_skel
  simp only [semSignalWord, semWaitWord, Prog.lift, Prog.bind_op, Prog.bind_ret, Prog.pure_eq_ret, wp_deviceId]
  iintro ⟨#HR, H⟩ Hk
  iapply (drain_src m ρ K c ⟨2, by decide⟩ 2) $$ [H]
  · isplitr; · iexact HR
    iexact H
  iintro H
  iapply (drain_land m ρ K c ⟨2, by decide⟩ 3) $$ [H]
  · isplitr; · iexact HR
    iexact H
  iintro H
  iapply (drain_load m ρ c ⟨2, by decide⟩ 3) $$ [H]
  · iexact H
  iintro H
  iapply (drain_src m ρ K c ⟨3, by decide⟩ 3) $$ [H]
  · isplitr; · iexact HR
    iexact H
  iintro H
  iapply Hk; iexact H

/-- Landings up to 5, sources up to 5. -/
theorem part14_run (c : Dev nD) (v2 : BitVec 32) (a : FVec F S64x512 .f32)
    {α : Type} {Q : α → sProp 𝕄} {kont : (Σ' (v398 : FVec F S64x512 .f32), BitVec 32) → Prog (TpuEff nD τ sig (Elt F) Λ₀ .tc) α} :
    iprop(records m ρ K ∗ DrSt m ρ c 4 3)
      ⊢ iprop((∀ v : BitVec 32, DrSt m ρ c 5 5 -∗ wp frame (wpE (defs₀ (F := F)) 𝒱₀ (c : Thread nD τ) none) Set.univ (kont ⟨k0_pay11 a (slotVal m ρ c (Fin.succ ⟨3, by decide⟩)) (slotVal m ρ c (Fin.succ ⟨4, by decide⟩)), v⟩) Q)
          -∗ wp frame (wpE (defs₀ (F := F)) 𝒱₀ (c : Thread nD τ) none) Set.univ (k0_part14 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a >>= kont) Q) := by
  simp only [k0_part14_eq_skeleton]; unfold k0_part14_skel
  simp only [semSignalWord, semWaitWord, Prog.lift, Prog.bind_op, Prog.bind_ret, Prog.pure_eq_ret, wp_deviceId]
  iintro ⟨#HR, H⟩ Hk
  iapply (drain_land m ρ K c ⟨3, by decide⟩ 4) $$ [H]
  · isplitr; · iexact HR
    iexact H
  iintro H
  iapply (drain_load m ρ c ⟨3, by decide⟩ 4) $$ [H]
  · iexact H
  iintro H
  iapply (drain_src m ρ K c ⟨4, by decide⟩ 4) $$ [H]
  · isplitr; · iexact HR
    iexact H
  iintro H
  iapply (drain_land m ρ K c ⟨4, by decide⟩ 5) $$ [H]
  · isplitr; · iexact HR
    iexact H
  iintro H
  iapply (drain_load m ρ c ⟨4, by decide⟩ 5) $$ [H]
  · iexact H
  iintro H
  iapply Hk; iexact H

/-- Landings up to 6, sources up to 7. -/
theorem part15_run (c : Dev nD) (v2 : BitVec 32) (a : FVec F S64x512 .f32) (w : BitVec 32)
    {α : Type} {Q : α → sProp 𝕄} {kont : (FVec F S64x512 .f32) → Prog (TpuEff nD τ sig (Elt F) Λ₀ .tc) α} :
    iprop(records m ρ K ∗ DrSt m ρ c 5 5)
      ⊢ iprop((DrSt m ρ c 7 6 -∗ wp frame (wpE (defs₀ (F := F)) 𝒱₀ (c : Thread nD τ) none) Set.univ (kont (k0_pay12 a (slotVal m ρ c (Fin.succ ⟨5, by decide⟩)))) Q)
          -∗ wp frame (wpE (defs₀ (F := F)) 𝒱₀ (c : Thread nD τ) none) Set.univ (k0_part15 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a w >>= kont) Q) := by
  simp only [k0_part15_eq_skeleton]; unfold k0_part15_skel
  simp only [semSignalWord, semWaitWord, Prog.lift, Prog.bind_op, Prog.bind_ret, Prog.pure_eq_ret, wp_deviceId]
  iintro ⟨#HR, H⟩ Hk
  iapply (drain_src m ρ K c ⟨5, by decide⟩ 5) $$ [H]
  · isplitr; · iexact HR
    iexact H
  iintro H
  iapply (drain_land m ρ K c ⟨5, by decide⟩ 6) $$ [H]
  · isplitr; · iexact HR
    iexact H
  iintro H
  iapply (drain_load m ρ c ⟨5, by decide⟩ 6) $$ [H]
  · iexact H
  iintro H
  iapply (drain_src m ρ K c ⟨6, by decide⟩ 6) $$ [H]
  · isplitr; · iexact HR
    iexact H
  iintro H
  iapply Hk; iexact H

/-- Landings up to 8, sources up to 8. -/
theorem part16_run (c : Dev nD) (v2 : BitVec 32) (a : FVec F S64x512 .f32)
    {α : Type} {Q : α → sProp 𝕄} {kont : (Σ' (v455 : FVec F S64x512 .f32), BitVec 32) → Prog (TpuEff nD τ sig (Elt F) Λ₀ .tc) α} :
    iprop(records m ρ K ∗ DrSt m ρ c 7 6)
      ⊢ iprop((∀ v : BitVec 32, DrSt m ρ c 8 8 -∗ wp frame (wpE (defs₀ (F := F)) 𝒱₀ (c : Thread nD τ) none) Set.univ (kont ⟨k0_pay13 a (slotVal m ρ c (Fin.succ ⟨6, by decide⟩)) (slotVal m ρ c (Fin.succ ⟨7, by decide⟩)), v⟩) Q)
          -∗ wp frame (wpE (defs₀ (F := F)) 𝒱₀ (c : Thread nD τ) none) Set.univ (k0_part16 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a >>= kont) Q) := by
  simp only [k0_part16_eq_skeleton]; unfold k0_part16_skel
  simp only [semSignalWord, semWaitWord, Prog.lift, Prog.bind_op, Prog.bind_ret, Prog.pure_eq_ret, wp_deviceId]
  iintro ⟨#HR, H⟩ Hk
  iapply (drain_land m ρ K c ⟨6, by decide⟩ 7) $$ [H]
  · isplitr; · iexact HR
    iexact H
  iintro H
  iapply (drain_load m ρ c ⟨6, by decide⟩ 7) $$ [H]
  · iexact H
  iintro H
  iapply (drain_src m ρ K c ⟨7, by decide⟩ 7) $$ [H]
  · isplitr; · iexact HR
    iexact H
  iintro H
  iapply (drain_land m ρ K c ⟨7, by decide⟩ 8) $$ [H]
  · isplitr; · iexact HR
    iexact H
  iintro H
  iapply (drain_load m ρ c ⟨7, by decide⟩ 8) $$ [H]
  · iexact H
  iintro H
  iapply Hk; iexact H

/-- Landings up to 9, sources up to 10. -/
theorem part17_run (c : Dev nD) (v2 : BitVec 32) (a : FVec F S64x512 .f32) (w : BitVec 32)
    {α : Type} {Q : α → sProp 𝕄} {kont : (Σ' (v474 : FVec F S64x512 .f32), BitVec 32) → Prog (TpuEff nD τ sig (Elt F) Λ₀ .tc) α} :
    iprop(records m ρ K ∗ DrSt m ρ c 8 8)
      ⊢ iprop((∀ v : BitVec 32, DrSt m ρ c 10 9 -∗ wp frame (wpE (defs₀ (F := F)) 𝒱₀ (c : Thread nD τ) none) Set.univ (kont ⟨k0_pay14 a (slotVal m ρ c (Fin.succ ⟨8, by decide⟩)), v⟩) Q)
          -∗ wp frame (wpE (defs₀ (F := F)) 𝒱₀ (c : Thread nD τ) none) Set.univ (k0_part17 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a w >>= kont) Q) := by
  simp only [k0_part17_eq_skeleton]; unfold k0_part17_skel
  simp only [semSignalWord, semWaitWord, Prog.lift, Prog.bind_op, Prog.bind_ret, Prog.pure_eq_ret, wp_deviceId]
  iintro ⟨#HR, H⟩ Hk
  iapply (drain_src m ρ K c ⟨8, by decide⟩ 8) $$ [H]
  · isplitr; · iexact HR
    iexact H
  iintro H
  iapply (drain_land m ρ K c ⟨8, by decide⟩ 9) $$ [H]
  · isplitr; · iexact HR
    iexact H
  iintro H
  iapply (drain_load m ρ c ⟨8, by decide⟩ 9) $$ [H]
  · iexact H
  iintro H
  iapply (drain_src m ρ K c ⟨9, by decide⟩ 9) $$ [H]
  · isplitr; · iexact HR
    iexact H
  iintro H
  iapply Hk; iexact H

/-- Landings up to 11, sources up to 11. -/
theorem part18_run (c : Dev nD) (v2 : BitVec 32) (a : FVec F S64x512 .f32) (w : BitVec 32)
    {α : Type} {Q : α → sProp 𝕄} {kont : (Σ' (v493 : FVec F S64x512 .f32), FVec F S64x512 .bf16) → Prog (TpuEff nD τ sig (Elt F) Λ₀ .tc) α} :
    iprop(records m ρ K ∗ DrSt m ρ c 10 9)
      ⊢ iprop((DrSt m ρ c 11 11 -∗ wp frame (wpE (defs₀ (F := F)) 𝒱₀ (c : Thread nD τ) none) Set.univ (kont ⟨k0_pay15 a (slotVal m ρ c (Fin.succ ⟨9, by decide⟩)), k0_pay16 (slotVal m ρ c (Fin.succ ⟨10, by decide⟩))⟩) Q)
          -∗ wp frame (wpE (defs₀ (F := F)) 𝒱₀ (c : Thread nD τ) none) Set.univ (k0_part18 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a w >>= kont) Q) := by
  simp only [k0_part18_eq_skeleton]; unfold k0_part18_skel
  simp only [semSignalWord, semWaitWord, Prog.lift, Prog.bind_op, Prog.bind_ret, Prog.pure_eq_ret, wp_deviceId]
  iintro ⟨#HR, H⟩ Hk
  iapply (drain_land m ρ K c ⟨9, by decide⟩ 10) $$ [H]
  · isplitr; · iexact HR
    iexact H
  iintro H
  iapply (drain_load m ρ c ⟨9, by decide⟩ 10) $$ [H]
  · iexact H
  iintro H
  iapply (drain_src m ρ K c ⟨10, by decide⟩ 10) $$ [H]
  · isplitr; · iexact HR
    iexact H
  iintro H
  iapply (drain_land m ρ K c ⟨10, by decide⟩ 11) $$ [H]
  · isplitr; · iexact HR
    iexact H
  iintro H
  iapply (drain_load m ρ c ⟨10, by decide⟩ 11) $$ [H]
  · iexact H
  iintro H
  iapply Hk; iexact H

/-- Landings up to 12, sources up to 12. -/
theorem part19_run (c : Dev nD) (v2 : BitVec 32) (a : FVec F S64x512 .f32) (b : FVec F S64x512 .bf16)
    {α : Type} {Q : α → sProp 𝕄} {kont : (Σ' (v531 : FVec F S64x512 .f32), BitVec 32) → Prog (TpuEff nD τ sig (Elt F) Λ₀ .tc) α} :
    iprop(records m ρ K ∗ DrSt m ρ c 11 11)
      ⊢ iprop((∀ v : BitVec 32, DrSt m ρ c 12 12 -∗ wp frame (wpE (defs₀ (F := F)) 𝒱₀ (c : Thread nD τ) none) Set.univ (kont ⟨k0_pay17 a b (slotVal m ρ c (Fin.succ ⟨11, by decide⟩)), v⟩) Q)
          -∗ wp frame (wpE (defs₀ (F := F)) 𝒱₀ (c : Thread nD τ) none) Set.univ (k0_part19 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a b >>= kont) Q) := by
  simp only [k0_part19_eq_skeleton]; unfold k0_part19_skel
  simp only [semSignalWord, semWaitWord, Prog.lift, Prog.bind_op, Prog.bind_ret, Prog.pure_eq_ret, wp_deviceId]
  iintro ⟨#HR, H⟩ Hk
  iapply (drain_src m ρ K c ⟨11, by decide⟩ 11) $$ [H]
  · isplitr; · iexact HR
    iexact H
  iintro H
  iapply (drain_land m ρ K c ⟨11, by decide⟩ 12) $$ [H]
  · isplitr; · iexact HR
    iexact H
  iintro H
  iapply (drain_load m ρ c ⟨11, by decide⟩ 12) $$ [H]
  · iexact H
  iintro H
  iapply Hk; iexact H

/-- Landings up to 13, sources up to 14. -/
theorem part20_run (c : Dev nD) (v2 : BitVec 32) (a : FVec F S64x512 .f32) (w : BitVec 32)
    {α : Type} {Q : α → sProp 𝕄} {kont : (FVec F S64x512 .f32) → Prog (TpuEff nD τ sig (Elt F) Λ₀ .tc) α} :
    iprop(records m ρ K ∗ DrSt m ρ c 12 12)
      ⊢ iprop((DrSt m ρ c 14 13 -∗ wp frame (wpE (defs₀ (F := F)) 𝒱₀ (c : Thread nD τ) none) Set.univ (kont (k0_pay18 a (slotVal m ρ c (Fin.succ ⟨12, by decide⟩)))) Q)
          -∗ wp frame (wpE (defs₀ (F := F)) 𝒱₀ (c : Thread nD τ) none) Set.univ (k0_part20 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 c v2 a w >>= kont) Q) := by
  simp only [k0_part20_eq_skeleton]; unfold k0_part20_skel
  simp only [semSignalWord, semWaitWord, Prog.lift, Prog.bind_op, Prog.bind_ret, Prog.pure_eq_ret, wp_deviceId]
  iintro ⟨#HR, H⟩ Hk
  iapply (drain_src m ρ K c ⟨12, by decide⟩ 12) $$ [H]
  · isplitr; · iexact HR
    iexact H
  iintro H
  iapply (drain_land m ρ K c ⟨12, by decide⟩ 13) $$ [H]
  · isplitr; · iexact HR
    iexact H
  iintro H
  iapply (drain_load m ρ c ⟨12, by decide⟩ 13) $$ [H]
  · iexact H
  iintro H
  iapply (drain_src m ρ K c ⟨13, by decide⟩ 13) $$ [H]
  · isplitr; · iexact HR
    iexact H
  iintro H
  iapply Hk; iexact H

end Cert.MoeProof
-- ==== Proof.Body.lean ====
/-
# The body

What a device starts from and ends with, how the phases' states are made of it, and the kernel body run from one to the other.
-/
module

public import proofs.«01_k».proof.Proof.Parts

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline
open Idealize.ShloMosaic.SparseCore.ProtocolKit (finFrom finUpTo bigSep_finFrom_succ bigSep_finUpTo_succ sum_finFrom_succ sum_finFrom_self bigSep_finFrom_zero bigSep_finFrom_self bigSep_finUpTo_zero bigSep_finUpTo_self)

variable {F : FTy → Type} [FloatOps F]
local notation "𝕄" => MT nD τ sig Unit (Elt F) ℕ UU ℕ
variable (m : (ℓ : Loc nD τ sig) → Buf (Elt F) ℓ) (ρ : Dev nD → PrngReg)

/-! ## The result -/

abbrev sv (c : Dev nD) (r : Fin 15) : Vec F S1x64x512 .bf16 := slotVal m ρ c (Fin.succ r)

/-- The kernel's result on device `c`: the shared product and its own rows, then the fifteen landed blocks added in order. -/
def outAt (c : Dev nD) : (cc0_stg5_0 : Ref sig .tc).ty.Contents (Elt F) :=
  k0_pay1 (k0_pay19 (k0_pay18 (k0_pay17 (k0_pay15 (k0_pay14 (k0_pay13 (k0_pay12 (k0_pay11 (k0_pay10 (k0_pay9
    (k0_pay7 (xrow m ρ c) (wstg m ρ c) (ownrow m ρ c)) (k0_pay8 (sv m ρ c ⟨0, by decide⟩)) (sv m ρ c ⟨1, by decide⟩))
    (sv m ρ c ⟨2, by decide⟩)) (sv m ρ c ⟨3, by decide⟩) (sv m ρ c ⟨4, by decide⟩)) (sv m ρ c ⟨5, by decide⟩))
    (sv m ρ c ⟨6, by decide⟩) (sv m ρ c ⟨7, by decide⟩)) (sv m ρ c ⟨8, by decide⟩)) (sv m ρ c ⟨9, by decide⟩))
    (k0_pay16 (sv m ρ c ⟨10, by decide⟩)) (sv m ρ c ⟨11, by decide⟩)) (sv m ρ c ⟨12, by decide⟩)) (sv m ρ c ⟨13, by decide⟩))
    (sv m ρ c ⟨14, by decide⟩)

/-! ## Before and after -/

/-- Device `c`'s positions at round 0 of its own cells. -/
def positions (c : Dev nD) : sProp 𝕄 :=
  iprop(atPos ER (barCell c) 0 ∅ 0 ∗ (bigSep Finset.univ fun o : Fin 16 => atPos ER (sendCell c o) 0 ∅ 0)
    ∗ bigSep Finset.univ fun o : Fin 16 => atPos ER (recvCell c o) 0 ∅ 0)
/-- The duties device `c` pays: a unit to each barrier, its own send cells, and the receive cell at each offset. -/
def payToks (c : Dev nD) : sProp 𝕄 :=
  iprop((bigSep Finset.univ fun d : Fin 16 => dutyTok ER (barCell d) 0 c)
    ∗ (bigSep Finset.univ fun r : Fin 15 => dutyTok ER (sendCell c r.succ) 0 (0 : Fin 16))
    ∗ bigSep Finset.univ fun r : Fin 15 => dutyTok ER (recvCell (c + r.succ) r.succ) 0 (0 : Fin 16))
def ghost (K : Dev nD × CK → ℕ) (c : Dev nD) : sProp 𝕄 := iprop(records m ρ K ∗ positions c ∗ payToks c)
def start (c : Dev nD) : sProp 𝕄 :=
  iprop((∃ K, ghost m ρ K c) ∗ cred (tallyAt (barCell c) () 16)
    ∗ (bigSep Finset.univ fun r : Fin 15 => cred (tallyAt (recvCell c r.succ) () N)) ∗ levAts L lv)
/-- The scratch memory, at any contents. -/
def scratch (c : Dev nD) : sProp 𝕄 :=
  iprop((∃ f, ((c : Thread nD τ).loc cc0_scratch0) ↦{fullShare} f) ∗ ∃ f, ((c : Thread nD τ).loc cc0_scratch1) ↦{fullShare} f)
def Φ₀ (c : Dev nD) : sProp 𝕄 := iprop(start m ρ c ∗ scratch c)
def Φ₁ (c : Dev nD) : sProp 𝕄 :=
  iprop(scratch c ∗ (bigSep Finset.univ fun k : OK => semVal ((c : Thread nD τ), osem k) 0) ∗ semVal (barCell c) 0)

abbrev t₀ : Fin cfg0.N := t0_0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => estg m ρ c
    | ⟨4, _⟩ => wstg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## How the phases begin and end -/

/-- Offsets back from `c`. -/
def back (c : Fin 16) : Fin 16 ≃ Fin 16 := ⟨fun d => c - d, fun d => c - d, by revert c; decide, by revert c; decide⟩

theorem sig_start (c : Dev nD) (f : Buf (Elt F) ((c : Thread nD τ).loc cc0_scratch1)) :
    iprop(Ow c (O₀ c) ∗ (bigSep Finset.univ fun d : Fin 16 => dutyTok ER (barCell d) 0 c) ∗ (((c : Thread nD τ).loc cc0_scratch1) ↦{fullShare} f))
      ⊢ (SigSt c 0 : sProp 𝕄) := by
  unfold SigSt
  rw [bigSep_finFrom_zero, slots_split, bigSep_univ_equiv (back c) (fun o : Fin 16 => slotPts c o f), bigSep_sep']
  iintro ⟨HO, Ht, Hs⟩
  isplitl [HO]; · iexact HO
  isplitl [Ht]; · iexact Ht
  iapply (show (bigSep Finset.univ fun d : Fin 16 => slotPts c (back c d) f : sProp 𝕄) ⊢ bigSep Finset.univ fun d : Fin 16 => iprop(∃ f, slotPts c (c - d) f) from
    bigSep_mono fun d _ => exists_intro (Φ := fun f => slotPts c (c - d) f) f)
  iexact Hs

theorem rows_turn (c : Dev nD) (f : Buf (Elt F) ((c : Thread nD τ).loc cc0_scratch0)) :
    (((c : Thread nD τ).loc cc0_scratch0) ↦{fullShare} f : sProp 𝕄)
      = iprop(rowPts c c f ∗ bigSep Finset.univ fun r : Fin 15 => rowPts c (c + r.succ) f) := by
  rw [rows_split, bigSep_univ_equiv (turn c) (fun t : Fin 16 => rowPts c t f), bigSep_univ_succ]
  have h : turn c 0 = c := by show (c : Fin 16) + 0 = c; clear f; revert c; decide
  rw [h]; rfl

theorem send_start (c : Dev nD) :
    iprop(Ow c (recvDue c 0) ∗ (bigSep Finset.univ fun r : Fin 15 => dutyTok ER (sendCell c r.succ) 0 (0 : Fin 16))
        ∗ (bigSep Finset.univ fun r : Fin 15 => dutyTok ER (recvCell (c + r.succ) r.succ) 0 (0 : Fin 16))
        ∗ (bigSep Finset.univ fun o : Fin 16 => iprop(∃ f, slotPts (c + o) o f))
        ∗ (((c : Thread nD τ).loc cc0_scratch0) ↦{fullShare} part m ρ c))
      ⊢ (iprop(SendSt m ρ c 0 ∗ rowPts c c (part m ρ c) ∗ ∃ f, slotPts c 0 f) : sProp 𝕄) := by
  unfold SendSt
  rw [bigSep_finFrom_zero, bigSep_finUpTo_zero, rows_turn, bigSep_univ_succ (fun o : Fin 16 => (iprop(∃ f, slotPts (c + o) o f) : sProp 𝕄)),
    bigSep_sep', bigSep_sep', bigSep_sep']
  have h : (c : Fin 16) + 0 = c := by revert c; decide
  rw [h]
  iintro ⟨HO, Hs, Hr, ⟨H0, Hsl⟩, Hrow, Hrows⟩
  isplitr [Hrow H0]
  · isplitl [HO]; · iexact HO
    isplitl
    · isplitl [Hs]; · iexact Hs
      isplitl [Hr]; · iexact Hr
      isplitl [Hrows] <;> iassumption
    iempintro
  isplitl [Hrow] <;> iassumption

theorem drain_start (c : Dev nD) :
    iprop(SendSt m ρ c 15 ∗ (bigSep Finset.univ fun r : Fin 15 => atPos ER (sendCell c r.succ) 0 ∅ 0)
        ∗ (bigSep Finset.univ fun r : Fin 15 => atPos ER (recvCell c r.succ) 0 ∅ 0)
        ∗ (bigSep Finset.univ fun r : Fin 15 => cred (tallyAt (recvCell c r.succ) () N)))
      ⊢ (DrSt m ρ c 0 0 : sProp 𝕄) := by
  unfold SendSt DrSt SrcSt LandSt
  rw [show recvDue c 15 = 0 from sum_finFrom_self _, bigSep_finFrom_self, bigSep_finUpTo_self, bigSep_finFrom_zero, bigSep_finFrom_zero,
    bigSep_finUpTo_zero, bigSep_finUpTo_zero, bigSep_sep', bigSep_sep']
  iintro ⟨⟨HO, -, Hcs⟩, Has, Har, Hcr⟩
  isplitl [HO]; · iexact HO
  isplitl [Hcs Has]
  · isplitl; · isplitl [Hcs] <;> iassumption
    iempintro
  isplitl
  · isplitl [Hcr] <;> iassumption
  iempintro

theorem drain_end (c : Dev nD) :
    DrSt m ρ c 15 15 ⊢ (iprop(Ow c 0 ∗ (bigSep Finset.univ fun r : Fin 15 => atPos ER (sendCell c r.succ) 1 ∅ 0)
        ∗ (bigSep Finset.univ fun r : Fin 15 => rowPts c (c + r.succ) (part m ρ c))
        ∗ (bigSep Finset.univ fun r : Fin 15 => atPos ER (recvCell c r.succ) 1 ∅ 0)
        ∗ bigSep Finset.univ fun r : Fin 15 => slotPts c r.succ (landed m ρ c)) : sProp 𝕄) := by
  unfold DrSt SrcSt LandSt
  rw [bigSep_finFrom_self, bigSep_finFrom_self, bigSep_finUpTo_self, bigSep_finUpTo_self, bigSep_sep', bigSep_sep']
  iintro ⟨HO, ⟨-, Has, Hrow⟩, -, Har, Hsl⟩
  isplitl [HO]; · iexact HO
  isplitl [Has]; · iexact Has
  isplitl [Hrow]; · iexact Hrow
  isplitl [Har] <;> iassumption

theorem slots_back (c : Dev nD) :
    iprop((∃ f, slotPts c 0 f) ∗ bigSep Finset.univ fun r : Fin 15 => slotPts c r.succ (landed m ρ c))
      ⊢ (iprop(∃ g, ((c : Thread nD τ).loc cc0_scratch1) ↦{fullShare} g) : sProp 𝕄) := by
  refine BIBase.Entails.trans ?_ (slots_join c (landed m ρ c))
  rw [bigSep_univ_succ (fun o : Fin 16 => (iprop(∃ f, slotPts c o f) : sProp 𝕄))]
  exact sep_mono_right (bigSep_mono fun r _ => exists_intro (Φ := fun f => slotPts c r.succ f) (landed m ρ c))

/-! ## Closing the cells -/

variable (K : Dev nD × CK → ℕ)

theorem close_cell (c : Dev nD) (k : CK) (R : ℕ) (hR : ∀ r, R ≤ r → (sched (F := F) m ρ).duties (kcell (c, k)) r = ∅) :
    iprop(records m ρ K ∗ atPos ER (kcell (c, k)) R ∅ 0) ⊢ |={Set.univ}=> semVal (kcell (c, k)) 0 :=
  (sep_mono_left (inv_at m ρ K (c, k))).trans (Rounds.cell_close ER (sched m ρ) (Set.mem_univ (K (c, k))) (fun h => h) (R := R) hR)

theorem close_cells (c : Dev nD) (k : Fin 15 → CK) :
    iprop(records m ρ K ∗ bigSep Finset.univ fun r : Fin 15 => atPos ER (kcell (c, k r)) 1 ∅ 0)
      ⊢ |={Set.univ}=> bigSep Finset.univ fun r : Fin 15 => semVal (kcell (c, k r)) 0 :=
  (bigSep_with_persistent fun r _ => close_cell m ρ K c (k r) 1 (duties_later m ρ _)).trans (bigSep_fupd _ _)

theorem own_zero (c : Dev nD) :
    (bigSep Finset.univ fun k : OK => semVal ((c : Thread nD τ), osem k) 0 : sProp 𝕄)
      = iprop((semVal (sendCell c 0) 0 ∗ bigSep Finset.univ fun r : Fin 15 => semVal (sendCell c r.succ) 0)
        ∗ semVal (recvCell c 0) 0 ∗ bigSep Finset.univ fun r : Fin 15 => semVal (recvCell c r.succ) 0) := by
  rw [bigSep_univ_sum, bigSep_univ_succ (fun o : Fin 16 => (semVal ((c : Thread nD τ), osem (.inl o)) 0 : sProp 𝕄)),
    bigSep_univ_succ (fun o : Fin 16 => (semVal ((c : Thread nD τ), osem (.inr o)) 0 : sProp 𝕄))]
  rfl

theorem close_all (c : Dev nD) :
    iprop(records m ρ K ∗ atPos ER (barCell c) 1 ∅ 0 ∗ atPos ER (sendCell c 0) 0 ∅ 0 ∗ atPos ER (recvCell c 0) 0 ∅ 0
        ∗ (bigSep Finset.univ fun r : Fin 15 => atPos ER (sendCell c r.succ) 1 ∅ 0)
        ∗ bigSep Finset.univ fun r : Fin 15 => atPos ER (recvCell c r.succ) 1 ∅ 0)
      ⊢ |={Set.univ}=> iprop((bigSep Finset.univ fun k : OK => semVal ((c : Thread nD τ), osem k) 0) ∗ semVal (barCell c) 0) := by
  rw [own_zero]
  iintro ⟨#HR, HB, Hs0, Hr0, Hs, Hr⟩
  imod (close_cell m ρ K c (.inl ()) 1 (duties_later m ρ _)) $$ [HB] with HB
  · isplitr; · iexact HR
    iexact HB
  imod (close_cell m ρ K c (.inr (.inl 0)) 0 (fun r _ => duties_send0 m ρ c r)) $$ [Hs0] with Hs0
  · isplitr; · iexact HR
    iexact Hs0
  imod (close_cell m ρ K c (.inr (.inr 0)) 0 (fun r _ => duties_recv0 m ρ c r)) $$ [Hr0] with Hr0
  · isplitr; · iexact HR
    iexact Hr0
  imod (close_cells m ρ K c (fun r => .inr (.inl r.succ))) $$ [Hs] with Hs
  · isplitr; · iexact HR
    iexact Hs
  imod (close_cells m ρ K c (fun r => .inr (.inr r.succ))) $$ [Hr] with Hr
  · isplitr; · iexact HR
    iexact Hr
  imodintro
  isplitr [HB]
  · isplitl [Hs0 Hs]
    · isplitl [Hs0] <;> iassumption
    isplitl [Hr0] <;> iassumption
  iexact HB

/-! ## The run of the body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c
    ∗ (dats m ρ 0 c).owesAt () t₀.succ
    ∗ stg c cc0_stg0_0 (xstg m ρ c)
    ∗ stg c cc0_stg1_0 (rstg m ρ c)
    ∗ stg c cc0_stg2_0 (istg m ρ c)
    ∗ stg c cc0_stg3_0 (estg m ρ c)
    ∗ stg c cc0_stg4_0 (wstg m ρ c)
    ∗ stg c cc0_stg5_0 (outAt m ρ c))

/-- What a device holds of its inputs while it runs. -/
def inputs (c : Dev nD) : sProp 𝕄 :=
  iprop((((c : Thread nD τ).loc cc0_stg0_0) ↦{fullShare} xstg m ρ c) ∗ (((c : Thread nD τ).loc cc0_stg1_0) ↦{fullShare} rstg m ρ c) ∗ (((c : Thread nD τ).loc cc0_stg2_0) ↦{fullShare} istg m ρ c) ∗ (((c : Thread nD τ).loc cc0_stg3_0) ↦{fullShare} estg m ρ c) ∗ (((c : Thread nD τ).loc cc0_stg4_0) ↦{fullShare} wstg m ρ c))

/-- What it starts the body with, and what it holds when it has ended. -/
def runPre (c : Dev nD) (f0 : Buf (Elt F) ((c : Thread nD τ).loc cc0_scratch0)) (f1 : Buf (Elt F) ((c : Thread nD τ).loc cc0_scratch1)) : sProp 𝕄 :=
  iprop(Ow c (O₀ c) ∗ positions c ∗ payToks c ∗ cred (tallyAt (barCell c) () 16)
    ∗ (bigSep Finset.univ fun r : Fin 15 => cred (tallyAt (recvCell c r.succ) () N)) ∗ inputs m ρ c
    ∗ (((c : Thread nD τ).loc cc0_scratch0) ↦{fullShare} f0) ∗ (((c : Thread nD τ).loc cc0_scratch1) ↦{fullShare} f1))
def rest0 (c : Dev nD) : sProp 𝕄 :=
  iprop(atPos ER (barCell c) 1 ∅ 0 ∗ atPos ER (sendCell c 0) 0 ∅ 0 ∗ atPos ER (recvCell c 0) 0 ∅ 0 ∗ rowPts c c (part m ρ c) ∗ ∃ f, slotPts c 0 f)

set_option maxHeartbeats 1000000 in
/-- The body up to the last landing. -/
theorem part21_run (c : Dev nD) (f0 : Buf (Elt F) ((c : Thread nD τ).loc cc0_scratch0)) (f1 : Buf (Elt F) ((c : Thread nD τ).loc cc0_scratch1))
    {α : Type} {Q : α → sProp 𝕄} {kont : (Σ' (d0 : Dev nD), FVec F S64x512 .f32) → Prog (TpuEff nD τ sig (Elt F) Λ₀ .tc) α} :
    iprop(records m ρ K ∗ levAts L lv ∗ runPre m ρ c f0 f1)
      ⊢ iprop(((DrSt m ρ c 15 14 ∗ rest0 m ρ c ∗ inputs m ρ c) -∗ wp frame (wpE (defs₀ (F := F)) 𝒱₀ (c : Thread nD τ) none) Set.univ (kont ⟨c, (k0_pay19 (k0_pay18 (k0_pay17 (k0_pay15 (k0_pay14 (k0_pay13 (k0_pay12 (k0_pay11 (k0_pay10 (k0_pay9 (k0_pay7 (xrow m ρ c) (wstg m ρ c) (ownrow m ρ c)) (k0_pay8 (sv m ρ c ⟨0, by decide⟩)) (sv m ρ c ⟨1, by decide⟩)) (sv m ρ c ⟨2, by decide⟩)) (sv m ρ c ⟨3, by decide⟩) (sv m ρ c ⟨4, by decide⟩)) (sv m ρ c ⟨5, by decide⟩)) (sv m ρ c ⟨6, by decide⟩) (sv m ρ c ⟨7, by decide⟩)) (sv m ρ c ⟨8, by decide⟩)) (sv m ρ c ⟨9, by decide⟩)) (k0_pay16 (sv m ρ c ⟨10, by decide⟩)) (sv m ρ c ⟨11, by decide⟩)) (sv m ρ c ⟨12, by decide⟩)) (sv m ρ c ⟨13, by decide⟩))⟩) Q)
          -∗ wp frame (wpE (defs₀ (F := F)) 𝒱₀ (c : Thread nD τ) none) Set.univ (k0_part21 (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3 >>= kont) Q) := by
  simp only [k0_part21_eq_skeleton]; unfold k0_part21_skel
  simp only [bind_assoc]
  unfold runPre positions payToks inputs
  rw [bigSep_univ_succ (fun o : Fin 16 => (atPos ER (sendCell c o) 0 ∅ 0 : sProp 𝕄)),
    bigSep_univ_succ (fun o : Fin 16 => (atPos ER (recvCell c o) 0 ∅ 0 : sProp 𝕄))]
  iintro ⟨#HR, #Hlev, HO, ⟨HatB, ⟨Has0, Has⟩, Har0, Har⟩, ⟨Htb, Hts, Htr⟩, HcB, HcV, ⟨Hx, Hr, Hi, He, Hw⟩, Hp, Hc⟩ Hk
  ihave H := (sig_start c f1) $$ [HO Htb Hc]
  · isplitl [HO]; · iexact HO
    isplitl [Htb] <;> iassumption
  iapply (part1_run m ρ K c) $$ [H]
  · isplitr; · iexact HR
    iexact H
  iintro %w1 H
  iapply (part2_run m ρ K c w1) $$ [H]
  · isplitr; · iexact HR
    iexact H
  iintro H
  iapply (part3_run m ρ K c _) $$ [H HcB HatB Hx Hr Hi He]
  · isplitr; · iexact HR
    isplitr; · iexact Hlev
    isplitl [H]; · iexact H
    isplitl [HcB]; · iexact HcB
    isplitl [HatB]; · iexact HatB
    isplitl [Hx]; · iexact Hx
    isplitl [Hr]; · iexact Hr
    isplitl [Hi] <;> iassumption
  iintro ⟨HO, HatB, Hsl, Hx, Hr, Hi, He⟩
  iapply (part4_run m ρ K c _ _ _ _ _ _ _ f0) $$ [He Hp]
  · isplitr; · iexact HR
    isplitl [He] <;> iassumption
  iintro ⟨He, Hp⟩
  iapply (part5_run m ρ K c _ f0 (part m ρ c) (iprop(rowPts c c (part m ρ c) ∗ ∃ f, slotPts c 0 f))) $$ [HO Hts Htr Hsl Hp]
  · isplitr; · iexact HR
    isplitl [Hp]; · iexact Hp
    iintro Hp
    iapply (send_start m ρ c)
    isplitl [HO]; · iexact HO
    isplitl [Hts]; · iexact Hts
    isplitl [Htr]; · iexact Htr
    isplitl [Hsl] <;> iassumption
  iintro %w5 ⟨H, Hrow, Hs0⟩
  iapply (part6_run m ρ K c _ _) $$ [H]
  · isplitr; · iexact HR
    iexact H
  iintro H
  iapply (part7_run m ρ K c _ ) $$ [H]
  · isplitr; · iexact HR
    iexact H
  iintro %w7 H
  iapply (part8_run m ρ K c _ _) $$ [H]
  · isplitr; · iexact HR
    iexact H
  iintro H
  iapply (part9_run m ρ K c _ ) $$ [H]
  · isplitr; · iexact HR
    iexact H
  iintro %w9 H
  iapply (part10_run m ρ K c _ _) $$ [H]
  · isplitr; · iexact HR
    iexact H
  iintro H
  iapply (part11_run m ρ K c _) $$ [H Hx Hw Hrow Has Har HcV]
  · isplitr; · iexact HR
    isplitl [H]; · iexact H
    isplitl [Has Har HcV]
    · iintro H
      iapply (drain_start m ρ c)
      isplitl [H]; · iexact H
      isplitl [Has]; · iexact Has
      isplitl [Har] <;> iassumption
    isplitl [Hx]; · iexact Hx
    isplitl [Hw] <;> iassumption
  iintro ⟨H, Hx, Hw, Hrow⟩
  iapply (part12_run m ρ K c _ _ _) $$ [H]
  · isplitr; · iexact HR
    iexact H
  iintro %w12 H
  iapply (part13_run m ρ K c _ _ _) $$ [H]
  · isplitr; · iexact HR
    iexact H
  iintro H
  iapply (part14_run m ρ K c _ _) $$ [H]
  · isplitr; · iexact HR
    iexact H
  iintro %w14 H
  iapply (part15_run m ρ K c _ _ _) $$ [H]
  · isplitr; · iexact HR
    iexact H
  iintro H
  iapply (part16_run m ρ K c _ _) $$ [H]
  · isplitr; · iexact HR
    iexact H
  iintro %w16 H
  iapply (part17_run m ρ K c _ _ _) $$ [H]
  · isplitr; · iexact HR
    iexact H
  iintro %w17 H
  iapply (part18_run m ρ K c _ _ _) $$ [H]
  · isplitr; · iexact HR
    iexact H
  iintro H
  iapply (part19_run m ρ K c _ _ _) $$ [H]
  · isplitr; · iexact HR
    iexact H
  iintro %w19 H
  iapply (part20_run m ρ K c _ _ _) $$ [H]
  · isplitr; · iexact HR
    iexact H
  iintro H
  simp only [Prog.lift, Prog.bind_op, Prog.bind_ret, Prog.pure_eq_ret]
  iapply (drain_land m ρ K c ⟨13, by decide⟩ 14) $$ [H]
  · isplitr; · iexact HR
    iexact H
  iintro H
  iapply (drain_load m ρ c ⟨13, by decide⟩ 14) $$ [H]
  · iexact H
  iintro H
  iapply (drain_src m ρ K c ⟨14, by decide⟩ 14) $$ [H]
  · isplitr; · iexact HR
    iexact H
  iintro H
  iapply Hk
  isplitl [H]; · iexact H
  unfold rest0
  isplitl [HatB Has0 Har0 Hrow Hs0]
  · isplitl [HatB]; · iexact HatB
    isplitl [Has0]; · iexact Has0
    isplitl [Har0]; · iexact Har0
    isplitl [Hrow] <;> iassumption
  isplitl [Hx]; · iexact Hx
  isplitl [Hr]; · iexact Hr
  isplitl [Hi]; · iexact Hi
  isplitl [He] <;> iassumption

theorem fetch_in (w : Fin cfg0.W) (t : Fin cfg0.N) (h : w.val < 5) : (cfg0.win w).fetch t = true := by
  rw [fin_N0 t]; revert h; revert w; decide

set_option maxHeartbeats 1000000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (cc0_body (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3) Kt := by
  simp only [cc0_body_eq_skeleton]; unfold cc0_body_skel
  unfold bodyPre Φ₀ start ghost scratch
  iintro ⟨⟨⟨⟨⟨%K, #HR, Hpos, Htok⟩, HcB, HcV, #Hlev⟩, ⟨%f0, Hp⟩, ⟨%f1, Hc⟩⟩, Ho, ⟨%d0, %g0, %hg0, Hx⟩, ⟨%d1, %g1, %hg1, Hr⟩, ⟨%d2, %g2, %hg2, Hi⟩,
    ⟨%d3, %g3, %hg3, He⟩, ⟨%d4, %g4, %hg4, Hw⟩, ⟨%d5, %g5, %hg5, Hout⟩⟩, Hk⟩
  have hx : g0 = xstg m ρ c := by rw [hg0]; unfold Dat.before; rw [if_pos (fetch_in _ t₀ (by decide))]; rfl
  have hr : g1 = rstg m ρ c := by rw [hg1]; unfold Dat.before; rw [if_pos (fetch_in _ t₀ (by decide))]; rfl
  have hi : g2 = istg m ρ c := by rw [hg2]; unfold Dat.before; rw [if_pos (fetch_in _ t₀ (by decide))]; rfl
  have he : g3 = estg m ρ c := by rw [hg3]; unfold Dat.before; rw [if_pos (fetch_in _ t₀ (by decide))]; rfl
  have hw : g4 = wstg m ρ c := by rw [hg4]; unfold Dat.before; rw [if_pos (fetch_in _ t₀ (by decide))]; rfl
  subst hx hr hi he hw
  unfold Dat.owesAt Pipeline.owesWithin
  icases Ho with ⟨%W, %hW, HO⟩
  rw [show (dats m ρ 0 c).owed t₀.castSucc = O₀ c from rfl]
  iapply (part21_run m ρ K c f0 f1) $$ [HO Hpos Htok HcB HcV Hx Hr Hi He Hw Hp Hc]
  · isplitr; · iexact HR
    isplitr; · iexact Hlev
    unfold runPre inputs
    isplitl [HO]; · unfold Ow; iexists W; iexact HO
    isplitl [Hpos]; · iexact Hpos
    isplitl [Htok]; · iexact Htok
    isplitl [HcB]; · iexact HcB
    isplitl [HcV]; · iexact HcV
    isplitl [Hx Hr Hi He Hw]
    · isplitl [Hx]; · iexact Hx
      isplitl [Hr]; · iexact Hr
      isplitl [Hi]; · iexact Hi
      isplitl [He] <;> iassumption
    isplitl [Hp] <;> iassumption
  unfold rest0 inputs
  iintro ⟨H, ⟨HatB, Has0, Har0, Hrow, Hs0⟩, Hx, Hr, Hi, He, Hw⟩
  simp only [Prog.lift, Prog.bind_op, Prog.bind_ret, Prog.pure_eq_ret]
  iapply (drain_land m ρ K c ⟨14, by decide⟩ 15) $$ [H]
  · isplitr; · iexact HR
    iexact H
  iintro H
  iapply (drain_load m ρ c ⟨14, by decide⟩ 15) $$ [H]
  · iexact H
  iintro H
  iapply (load_o c) $$ Hout; iintro Hout
  iapply (store_o c _ (outAt m ρ c)) $$ Hout; iintro Hout
  ihave H := (drain_end m ρ c) $$ H
  icases H with ⟨HO, Has, Hrows, Har, Hsl⟩
  imod (close_all m ρ K c) $$ [HatB Has0 Har0 Has Har] with ⟨Hz, HzB⟩
  · isplitr; · iexact HR
    isplitl [HatB]; · iexact HatB
    isplitl [Has0]; · iexact Has0
    isplitl [Har0]; · iexact Har0
    isplitl [Has] <;> iassumption
  rw [wp_ret]; imodintro
  iapply Hk
  unfold bodyPost Φ₁ scratch Dat.owesAt Pipeline.owesWithin Ow
  rw [show (dats m ρ 0 c).owed t₀.succ = 0 from rfl]
  isplitl [Hrow Hrows Hs0 Hsl Hz HzB]
  · isplitr [Hz HzB]
    · isplitl [Hrow Hrows]
      · iexists (part m ρ c); rw [rows_turn]
        isplitl [Hrow] <;> iassumption
      iapply (slots_back m ρ c)
      isplitl [Hs0] <;> iassumption
    isplitl [Hz] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  isplitl [Hw]
  · iexists _; isplitr; · (ipureintro; rfl)
    iexact Hw
  iexists _; isplitr; · (ipureintro; rfl)
  iexact Hout

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ wp frame (wpE (defs₀ (F := F)) 𝒱₀ (c : Thread nD τ) none) Set.univ (cc0_body (F := F) xM (Memref.isWhole_whole _) rM (Memref.isWhole_whole _) iM (Memref.isWhole_whole _) eM (Memref.isWhole_whole _) wM (Memref.isWhole_whole _) oM (Memref.isWhole_whole _) pM (Memref.isWhole_whole _) cM (Memref.isWhole_whole _) cc0_scratch2 cc0_scratch3) (fun _ => bodyPost m ρ c)
  iintro H
  iapply (sound_body m ρ c fun _ => bodyPost m ρ c)
  isplitl
  · iexact H
  · iintro H; iexact H

end Cert.MoeProof
-- ==== Proof.Launch.lean ====
/-
# The launch

The cells, tokens and credits the launch deals every device, and the run of @main on the whole mesh.
-/
module

public import proofs.«01_k».proof.Proof.Body
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline
open Idealize.ShloMosaic.SparseCore.ProtocolKit (finFrom finUpTo bigSep_finFrom_succ bigSep_finUpTo_succ sum_finFrom_succ sum_finFrom_self bigSep_finFrom_zero bigSep_finFrom_self bigSep_finUpTo_zero bigSep_finUpTo_self)

variable {F : FTy → Type} [FloatOps F]
local notation "𝕄" => MT nD τ sig Unit (Elt F) ℕ UU ℕ
variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (⟨⟩ | o | o) (⟨⟩ | o' | o') h
  · rfl
  · cases h
  · cases h
  · cases h
  · have h' : sendS o = sendS o' := SemLoc.dma.inj h
    have := congrArg Fin.val h'; rw [sendS_val, sendS_val] at this
    have : o = o' := Fin.ext (by omega)
    rw [this]
  · have h' : sendS o = recvS o' := SemLoc.dma.inj h
    have := congrArg Fin.val h'; rw [sendS_val, recvS_val] at this
    omega
  · cases h
  · have h' : recvS o = sendS o' := SemLoc.dma.inj h
    have := congrArg Fin.val h'; rw [sendS_val, recvS_val] at this
    omega
  · have h' : recvS o = recvS o' := SemLoc.dma.inj h
    have := congrArg Fin.val h'; rw [recvS_val, recvS_val] at this
    have : o = o' := Fin.ext (by omega)
    rw [this]
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def meshCells : Finset (GSem nD τ sig) := Finset.univ.map ⟨kcell, kcell_injective⟩

/-- The duties of a device's own cells: sixteen of its barrier's, one of each send and receive cell but the first. -/
abbrev TK : Type := Fin 16 ⊕ (Fin 15 ⊕ Fin 15)
abbrev tokCell : TK → CK := fun | .inl _ => .inl () | .inr (.inl r) => .inr (.inl r.succ) | .inr (.inr r) => .inr (.inr r.succ)
abbrev tokName : TK → Fin 16 := fun | .inl d => d | .inr _ => 0
abbrev tokOf (cj : Dev nD × TK) : GSem nD τ sig × ℕ × Fin 16 := (kcell (cj.1, tokCell cj.2), 0, tokName cj.2)
theorem tokOf_injective : Function.Injective (tokOf : Dev nD × TK → GSem nD τ sig × ℕ × Fin 16) := by
  rintro ⟨c, j⟩ ⟨c', j'⟩ h
  have h1 : (c, tokCell j) = (c', tokCell j') := kcell_injective (congrArg Prod.fst h)
  have h2 : tokName j = tokName j' := congrArg (fun x : GSem nD τ sig × ℕ × Fin 16 => x.2.2) h
  have h3 : c = c' := congrArg Prod.fst h1
  have h4 : tokCell j = tokCell j' := congrArg Prod.snd h1
  subst h3
  refine congrArg (Prod.mk c) ?_
  rcases j with d | r | r <;> rcases j' with d' | r' | r' <;> simp only [tokCell, tokName, Sum.inl.injEq, Sum.inr.injEq, reduceCtorEq, Fin.succ_inj] at h4 h2 ⊢ <;> assumption
def meshToks : Finset (GSem nD τ sig × ℕ × Fin 16) := Finset.univ.map ⟨tokOf, tokOf_injective⟩

def u₀ : UU :=
  (initOf (Pipeline.cells cfgs cellOf_inj) (Pipeline.launchToks cfgs cellOf_inj), initOf meshCells meshToks)

/-- The duty tokens of device `c`'s own cells. -/
def toks (c : Dev nD) : sProp 𝕄 :=
  iprop((bigSep Finset.univ fun d : Fin 16 => dutyTok ER (barCell c) 0 d)
    ∗ (bigSep Finset.univ fun r : Fin 15 => dutyTok ER (sendCell c r.succ) 0 (0 : Fin 16))
    ∗ bigSep Finset.univ fun r : Fin 15 => dutyTok ER (recvCell c r.succ) 0 (0 : Fin 16))

theorem toks_eq (c : Dev nD) : (bigSep Finset.univ fun j : TK => (dutyTok ER (tokOf (c, j)).1 (tokOf (c, j)).2.1 (tokOf (c, j)).2.2 : sProp 𝕄)) = toks c := by
  rw [bigSep_univ_sum, bigSep_univ_sum]; rfl

/-- What the launch deals device `c`, and what the mesh-wide step makes of it. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m ρ K c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => toks_eq c
  iintro HX
  imod (Rounds.fund ER (sched m ρ) meshCells meshToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop((Pipeline.ownSems0 (Ix := Unit) (Name := ℕ) (U := UU) (Lvl := ℕ) (Val := Elt F) (τ := τ) osem c : sProp 𝕄) ∗ unscopedSems0 c)
      ⊢ (bigSep Finset.univ fun k : CK => semVal (kcell (c, k)) 0 : sProp 𝕄) := by
  rw [unscopedSems0_eq, bigSep_univ_sum, Finset.univ_unique, bigSep_singleton]
  unfold Pipeline.ownSems0
  iintro ⟨H, HB⟩
  ihave Hp := (show iprop(semVal (barCell c) 0 ∗ bigSep Finset.univ fun k : OK => semVal ((c : Thread nD τ), osem k) 0) ⊢
    (iprop(semVal (kcell (c, Sum.inl default)) 0 ∗ bigSep Finset.univ fun k : OK => semVal (kcell (c, Sum.inr k)) 0) : sProp 𝕄) from Entails.of_eq rfl) $$ [H HB]
  · isplitl [HB] <;> iassumption
  iexact Hp

theorem core_alloc (c : Dev nD) :
    iprop((Pipeline.ownSems0 (Ix := Unit) (Name := ℕ) (U := UU) (Lvl := ℕ) (Val := Elt F) (τ := τ) osem c : sProp 𝕄) ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem positions_eq (c : Dev nD) : (bigSep Finset.univ fun k : CK => (atPos ER (kcell (c, k)) 0 ∅ 0 : sProp 𝕄)) = positions c := by
  rw [bigSep_univ_sum, Finset.univ_unique, bigSep_singleton, bigSep_univ_sum]; rfl

/-- The mesh shifted by an offset. -/
def shift (o : Fin 16) : Fin 16 ≃ Fin 16 := ⟨fun c => c + o, fun c => c - o, by revert o; decide, by revert o; decide⟩

/-- Every token handed to the device that pays the duty. -/
theorem toks_around : (bigSep Finset.univ fun c : Dev nD => (toks c : sProp 𝕄)) = bigSep Finset.univ fun c : Dev nD => payToks c := by
  unfold toks payToks
  rw [bigSep_sep', bigSep_sep', bigSep_sep', bigSep_sep',
    Pipeline.bigSep_univ_comm (fun (c : Dev nD) (d : Fin 16) => (dutyTok ER (barCell c) 0 d : sProp 𝕄)),
    Pipeline.bigSep_univ_comm (fun (c : Dev nD) (r : Fin 15) => (dutyTok ER (recvCell c r.succ) 0 (0 : Fin 16) : sProp 𝕄)),
    Pipeline.bigSep_univ_comm (fun (c : Dev nD) (r : Fin 15) => (dutyTok ER (recvCell (c + r.succ) r.succ) 0 (0 : Fin 16) : sProp 𝕄)),
    bigSep_congr (s := Finset.univ) (fun (r : Fin 15) _ => bigSep_univ_equiv (shift r.succ) (fun c : Dev nD => (dutyTok ER (recvCell c r.succ) 0 (0 : Fin 16) : sProp 𝕄)))]
  rfl

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around,
    bigSep_congr (s := Finset.univ) (fun (c : Dev nD) _ => positions_eq (F := F) c)]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  iapply (bigSep_with_persistent (R := records m ρ K) (Φ := fun c : Dev nD => iprop(positions c ∗ payToks c))
    fun c _ => show iprop(records m ρ K ∗ positions c ∗ payToks c) ⊢ G' m ρ c from exists_intro (Φ := fun K => ghost m ρ K c) K)
  isplitr
  · unfold records; isplitl; · iexact HI
    iexact HR
  · iapply (Entails.of_eq (bigSep_sep' Finset.univ (fun c : Dev nD => (positions c : sProp 𝕄)) payToks).symm)
    isplitl [Hat] <;> iassumption

/-- The mesh-wide step: the semaphores of every device at once. -/
theorem glob : (bigSep Finset.univ fun c => iprop((Pipeline.ownSems0 (Ix := Unit) (Name := ℕ) (U := UU) (Lvl := ℕ) (Val := Elt F) (τ := τ) osem c : sProp 𝕄) ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {o o' : Fin 16} : Iff (recvCell a o = recvCell b o') (a = b ∧ o = o') :=
  ⟨fun h => by
    have h2 : (a, (Sum.inr (Sum.inr o) : CK)) = (b, Sum.inr (Sum.inr o')) := kcell_injective h
    exact ⟨congrArg Prod.fst h2, Sum.inr.inj (Sum.inr.inj (congrArg Prod.snd h2))⟩,
   fun h => by rw [h.1, h.2]⟩
theorem recv_ne_bar (a b : Dev nD) (o : Fin 16) : recvCell a o ≠ barCell b := fun h => by
  have := congrArg Prod.snd h; cases this

theorem due_apply {n : ℕ} (g : Fin n → GSem nD τ sig) (N' : ℕ) (s : Finset (Fin n)) (g' : GSem nD τ sig) :
    (∑ r ∈ s, (tallyAt (g r) () N' : CellTallies nD τ sig Unit)) g' () = ∑ r ∈ s, if g r = g' then N' else 0 := by
  rw [Finset.sum_apply, Finsupp.finset_sum_apply]
  refine Finset.sum_congr rfl fun r _ => ?_
  rw [tallyAt_apply]
  by_cases h : g r = g'
  · rw [if_pos ⟨h.symm, rfl⟩, if_pos h]
  · rw [if_neg (fun h' => h h'.1.symm), if_neg h]

theorem finFrom_all (n : ℕ) : finFrom n 0 = Finset.univ := Finset.filter_true_of_mem fun i _ => Nat.zero_le _

theorem owed_bar (d c : Dev nD) : O₀ d (barCell c) () = 1 := by
  unfold O₀ recvDue barDue
  rw [Pi.add_apply, Finsupp.add_apply, due_apply, due_apply, Finset.sum_eq_zero (fun r _ => if_neg (recv_ne_bar _ _ _)), finFrom_all,
    Finset.sum_congr rfl (fun (x : Fin 16) _ => if_congr (bar_eq_iff (a := x) (b := c)) rfl rfl)]
  exact (Nat.zero_add _).trans ((Finset.sum_ite_eq' Finset.univ c fun _ => 1).trans (if_pos (Finset.mem_univ _)))

theorem owed_recv (d c : Dev nD) (r : Fin 15) : O₀ d (recvCell c r.succ) () = if d = c - r.succ then N else 0 := by
  unfold O₀ recvDue barDue
  rw [Pi.add_apply, Finsupp.add_apply, due_apply, due_apply, Finset.sum_eq_zero (s := finFrom 16 0) (fun r _ => if_neg (fun h => recv_ne_bar _ _ _ h.symm)), finFrom_all, Nat.add_zero]
  by_cases h : d = c - r.succ
  · have hc : (d : Fin 16) + r.succ = c := by rw [h]; exact off_from c r.succ
    rw [if_pos h, Finset.sum_eq_single r (fun r' _ hr' => if_neg (fun h' => hr' (Fin.succ_injective _ (recv_eq_iff.mp h').2))) (fun h' => absurd (Finset.mem_univ r) h')]
    exact if_pos (by rw [hc])
  · rw [if_neg h]
    refine Finset.sum_eq_zero fun r' _ => if_neg fun h' => h ?_
    obtain ⟨h1, h2⟩ := recv_eq_iff.mp h'
    rw [h2] at h1
    rw [← h1]; exact (off_back d r.succ).symm

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]; rfl

theorem launch_recv (c : Dev nD) (r : Fin 15) :
    tallyOn (recvCell c r.succ) (launchCredit (Pipeline.owing O₀) 0 (recvCell c r.succ)) = (tallyAt (recvCell c r.succ) () N : CellTallies nD τ sig Unit) := by
  unfold tallyAt; refine congrArg _ (Finsupp.ext fun u => ?_); cases u
  rw [Pipeline.launchCredit_owing, Finsupp.single_eq_same, Finset.sum_congr rfl fun d _ => owed_recv d c r]
  exact (Finset.sum_ite_eq' Finset.univ (c - r.succ : Fin 16) fun _ => N).trans (if_pos (Finset.mem_univ _))

/-- The receive semaphores but the first. -/
def recvEmb : Fin 15 ↪ SemLoc sig := ⟨fun r => .dma (recvS r.succ), fun r r' h => by
  have h' : recvS r.succ = recvS r'.succ := SemLoc.dma.inj h
  have := congrArg Fin.val h'; rw [recvS_val, recvS_val, Fin.val_succ, Fin.val_succ] at this
  exact Fin.ext (by omega)⟩

theorem creds (c : Dev nD) :
    (Pipeline.launchCred O₀ c : sProp 𝕄) ⊢ iprop(cred (tallyAt (barCell c) () 16) ∗ bigSep Finset.univ fun r : Fin 15 => cred (tallyAt (recvCell c r.succ) () N)) := by
  unfold Pipeline.launchCred
  rw [bigSep_univ_at _ (SemLoc.reg barS), launch_bar]
  refine sep_mono_right ?_
  refine BIBase.Entails.trans (bigSep_subset (t := Finset.univ.map recvEmb) (fun s hs => ?_)) ?_
  · obtain ⟨r, -, rfl⟩ := Finset.mem_map.mp hs
    exact Finset.mem_erase.mpr ⟨fun h => (by cases h), Finset.mem_univ _⟩
  · rw [bigSep_map]
    refine Entails.of_eq (bigSep_congr fun r _ => ?_)
    rw [← launch_recv]; rfl

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch c from scopedRest0_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scratch c from scopedRest0_eq c, unscopedSems0_eq]
  unfold Φ₁ Pipeline.ownSems0
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values, from any memory with zero counters, every weakly fair execution of @main on the sixteen devices
    terminates, and every final state has each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.MoeProof
-- ==== Proof.Frames.lean ====
/-
# The frames

Every program of the claim runs, leaves its arguments alone and ends with every counter at zero.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_in_range_KernelIdeal
public import proofs.«01_k».proof.Proof.Gen.Pre_in_range_ReferenceIdeal

@[expose] public section

noncomputable section

namespace Cert.MoeProof

open Cert.KernelIdeal Cert.KernelIdeal.Gen
open Idealize.ShloMosaic Idealize.ShloMosaic.TcCoe Idealize.SL.Sem

/-- What a run ends with: the five arguments as they were and every counter at zero. -/
theorem framed {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c (0 : Fin 6)).trans (finalA_in m ρ c (0 : Fin 6) rfl), (h.1 c (1 : Fin 6)).trans (finalA_in m ρ c (1 : Fin 6) rfl),
      (h.1 c (2 : Fin 6)).trans (finalA_in m ρ c (2 : Fin 6) rfl), (h.1 c (3 : Fin 6)).trans (finalA_in m ρ c (3 : Fin 6) rfl),
      (h.1 c (4 : Fin 6)).trans (finalA_in m ρ c (4 : Fin 6) rfl)⟩, h.2⟩) (run_main (F := F) m ρ)

/-- The kernel and its idealization have the same text: the same body table, -/
theorem defs₀_same {F : FTy → Type} [FloatOps F] : Cert.Kernel.defs₀ (F := F) = Cert.KernelIdeal.defs₀ := by
  unfold Cert.Kernel.defs₀ Cert.KernelIdeal.defs₀
  refine congrArg Defs.onTc ?_
  funext l a
  obtain ⟨_ | n, h⟩ := l
  · rfl
  · exact absurd h (Nat.not_lt.2 (Nat.le_add_left _ _))
/-- and the same table with the pipeline's. -/
theorem defs_same {F : FTy → Type} [FloatOps F] : Cert.Kernel.defs (F := F) = Cert.KernelIdeal.defs :=
  congrArg (Pipeline.defs Cert.KernelIdeal.pcfgs) defs₀_same

/-- The kernel's own frame, at the machine's floats. -/
theorem frame_kernel : Cert.quiescent_Kernel := fun m ρ _ => by
  have h := framed (F := Bits) m ρ
  rw [← defs_same] at h
  exact h

/-- The frame of its idealization. -/
theorem frame_ideal : Cert.quiescent_KernelIdeal := fun m ρ _ => framed (F := Ideal) m ρ

/-- The same where every row's expert is in range. -/
theorem frame_ideal_pre : Cert.quiescent_KernelIdeal_pre_in_range_KernelIdeal := fun m ρ _ => framed (F := Ideal) m ρ

/-- The reference's frame: a program of host operations that declares no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where every row's expert is in range. -/
theorem frame_ref_pre : Cert.quiescent_ReferenceIdeal_pre_in_range_ReferenceIdeal := fun m ρ _ => frame_ref m ρ trivial

end Cert.MoeProof
-- ==== Proof.RefValue.lean ====
/-
# The reference's result, read at an index

Over the extended reals, where the route indices lie in `[0, 64)`: the shared product, plus the softmax weight of the row's
expert times the row's product with that expert's weights.
-/
module

public import proofs.«01_k».proof.Proof.Gen.ReferenceIdeal.Run
public import Idealize.ShloMosaic.Lib.Pointwise
public import Idealize.ShloMosaic.Lib.ReduceAll
public import Idealize.ShloMosaic.Lib.Tactic.WordOmega

@[expose] public section

noncomputable section

namespace Cert.MoeProof

open Idealize.ShloMosaic

/-! ## The mathematics -/

/-- The softmax of row `t` of `x · r`, at column `j`. -/
def prob (x : Vec Ideal ⟨2, ![1024, 256]⟩ .bf16) (r : Vec Ideal ⟨2, ![256, 64]⟩ .bf16) (t : Fin 1024) (j : Fin 64) : EReal :=
  Ideal.div
    (Ideal.exp (∑ k : Fin 256, x (ix2 t k) * r (ix2 k j)
      - Finset.fold max (Ideal.ofBits FTy.f32 4286578688#32) (fun j' : Fin 64 => ∑ k : Fin 256, x (ix2 t k) * r (ix2 k j')) Finset.univ))
    (∑ l : Fin 64, Ideal.exp (∑ k : Fin 256, x (ix2 t k) * r (ix2 k l)
      - Finset.fold max (Ideal.ofBits FTy.f32 4286578688#32) (fun j' : Fin 64 => ∑ k : Fin 256, x (ix2 t k) * r (ix2 k j')) Finset.univ))

/-- Row `t` of `x` times column `h` of a matrix given by its entries. -/
def prod (x : Vec Ideal ⟨2, ![1024, 256]⟩ .bf16) (w : Fin 256 → EReal) (t : Fin 1024) : EReal := ∑ k : Fin 256, x (ix2 t k) * w k

/-! ## The reference's stages -/

section Ref

open Cert.ReferenceIdeal Cert.ReferenceIdeal.Gen

/-- `x` times the router's weights. -/
def refLogits (x : FVec Ideal S1024x256 .bf16) (r : FVec Ideal S256x64 .bf16) : FVec Ideal S1024x64 .f32 :=
  Host.dotGeneral dot_S1024x256_S256x64_S1024x64_1_0_0_1_n_n none (extf .f32 x bitsLt_bf16_f32) (extf .f32 r bitsLt_bf16_f32)
/-- The exponentials of the logits less their row's maximum. -/
def refExp (x : FVec Ideal S1024x256 .bf16) (r : FVec Ideal S256x64 .bf16) : FVec Ideal S1024x64 .f32 :=
  Host.exp (subf (refLogits x r) (broadcastInDim S1024x64 ![0, 1] bcast_S1024x1_S1024x64_0_1 (broadcastInDim S1024x1 ![0] bcast_S1024_S1024x1_0
    (Host.reduce FloatOps.maximumf (refLogits x r) (constant S_ .f32 0xFF800000#32) reducesTo_S1024x64_S1024_d1 h_S_))))
/-- The softmax. -/
def refProbs (x : FVec Ideal S1024x256 .bf16) (r : FVec Ideal S256x64 .bf16) : FVec Ideal S1024x64 .f32 :=
  Host.divf (refExp x r) (broadcastInDim S1024x64 ![0, 1] bcast_S1024x1_S1024x64_0_1 (broadcastInDim S1024x1 ![0] bcast_S1024_S1024x1_0
    (Host.reduceAdd (refExp x r) (constant S_ .f32 0x00000000#32) reducesTo_S1024x64_S1024_d1 h_S_)))
/-- The route indices as the reference reads a column of the softmax by them. -/
def refCol (i : IVec S1024x1 32) : IVec S1024x1x1 32 :=
  shapeCast _ (select (cmpi .slt i (broadcastInDim S1024x1 ![] bcast_S_S1024x1 (constantI S_ 32 0#32)))
    (addi i (broadcastInDim S1024x1 ![] bcast_S_S1024x1 (constantI S_ 32 64#32))) i) shapeCasts_S1024x1_S1024x1x1
/-- Where the reference keeps the column it read. -/
def refMask (i : IVec S1024x1 32) : IVec S1024x1x1 1 :=
  andi (cmpi .sge (refCol i) (broadcastInDim S1024x1x1 ![] bcast_S_S1024x1x1 (constantI S_ 32 0#32)))
    (cmpi .sle (refCol i) (broadcastInDim S1024x1x1 ![0, 1, 2] bcast_S1x1x1_S1024x1x1_0_1_2
      (broadcastInDim S1x1x1 ![2] bcast_S1_S1x1x1_2 (constantI S1 32 63#32))))
/-- The row's softmax at its expert. -/
def refPick (x : FVec Ideal S1024x256 .bf16) (r : FVec Ideal S256x64 .bf16) (i : IVec S1024x1 32) : FVec Ideal S1024x1 .f32 :=
  select (Host.reduce IntOp.andi (refMask i) (constantI S_ 1 1#1) reducesTo_S1024x1x1_S1024x1_d2 h_S_)
    (Host.gather gather_S1024x64_S1024x1x1_S1024x1_n_1_0_0_1_2_11 (refProbs x r) (refCol i))
    (broadcastInDim S1024x1 ![] bcast_S_S1024x1 (constant S_ .f32 0x7FC00000#32))
/-- The route indices as the reference reads the experts' weights by them. -/
def refRow (i : IVec S1024x1 32) : IVec S1024x1 32 :=
  broadcastInDim S1024x1 ![0] bcast_S1024_S1024x1_0 (select (cmpi .slt (shapeCast _ i shapeCasts_S1024x1_S1024) (broadcastInDim S1024 ![] bcast_S_S1024 (constantI S_ 32 0#32)))
    (addi (shapeCast _ i shapeCasts_S1024x1_S1024) (broadcastInDim S1024 ![] bcast_S_S1024 (constantI S_ 32 64#32))) (shapeCast _ i shapeCasts_S1024x1_S1024))
/-- The weights of each row's expert. -/
def refWeights (i : IVec S1024x1 32) (e : FVec Ideal S64x256x512 .bf16) : FVec Ideal S1024x256x512 .f32 :=
  Host.gather gather_S64x256x512_S1024x1_S1024x256x512_12_0_n_n_0_1_1256512 (extf .f32 e bitsLt_bf16_f32) (refRow i)
/-- The reference's result. -/
def refOut (x : FVec Ideal S1024x256 .bf16) (r : FVec Ideal S256x64 .bf16) (i : IVec S1024x1 32) (e : FVec Ideal S64x256x512 .bf16)
    (w : FVec Ideal S256x512 .bf16) : FVec Ideal S1024x512 .f32 :=
  addf (Host.dotGeneral dot_S1024x256_S256x512_S1024x512_1_0_0_1_n_n none (extf .f32 x bitsLt_bf16_f32) (extf .f32 w bitsLt_bf16_f32))
    (mulf (broadcastInDim S1024x512 ![0, 1] bcast_S1024x1_S1024x512_0_1 (refPick x r i))
      (Host.dotGeneral dot_S1024x256_S1024x256x512_S1024x512_1_1_n_2_0_0 none (extf .f32 x bitsLt_bf16_f32) (refWeights i e)))

set_option maxRecDepth 16384

/-- The softmax at an index. -/
theorem refProbs_apply (x : FVec Ideal S1024x256 .bf16) (r : FVec Ideal S256x64 .bf16) (t : Fin 1024) (j : Fin 64) :
    refProbs x r (ix2 t j) = prob x r t j := by
  unfold prob
  pointwise! [refProbs, refExp, refLogits]

/-- Two comparisons bound a word. -/
theorem word_range (w : BitVec 32) (hlo : IntOp.cmpi .sge w 0#32 = 1#1) (hhi : IntOp.cmpi .slt w 64#32 = 1#1) :
    ∃ s : Fin 64, w = BitVec.ofNat 32 s.val := by
  have h : w.toNat < 64 := by word_omega
  exact ⟨⟨w.toNat, h⟩, by simp⟩

theorem wrap_word : ∀ s : Fin 64, Scalar.select (IntOp.cmpi .slt (BitVec.ofNat 32 s.val) 0#32) (IntOp.addi (BitVec.ofNat 32 s.val) 64#32)
    (BitVec.ofNat 32 s.val) = BitVec.ofNat 32 s.val := by decide
theorem in_word : ∀ s : Fin 64, IntOp.andi (IntOp.cmpi .sge (BitVec.ofNat 32 s.val) 0#32) (IntOp.cmpi .sle (BitVec.ofNat 32 s.val) 63#32) = 1#1 := by
  decide
theorem clamp_word : ∀ s : Fin 64, min (BitVec.ofNat 32 s.val).toInt.toNat 63 = s.val := by decide

/-- A route index in range is read as it is, -/
theorem refCol_apply (i : IVec S1024x1 32) (t : Fin 1024) (s : Fin 64) (hs : i (ix2 t 0) = BitVec.ofNat 32 s.val) :
    refCol i (ix3 t 0 0) = BitVec.ofNat 32 s.val := by
  pointwise [refCol]
  rw [hs]; exact wrap_word s

/-- both times; -/
theorem refRow_apply (i : IVec S1024x1 32) (t : Fin 1024) (s : Fin 64) (hs : i (ix2 t 0) = BitVec.ofNat 32 s.val) :
    refRow i (ix2 t 0) = BitVec.ofNat 32 s.val := by
  pointwise [refRow]
  rw [hs]; exact wrap_word s

/-- and it is kept. -/
theorem refMask_apply (i : IVec S1024x1 32) (t : Fin 1024) (s : Fin 64) (hs : i (ix2 t 0) = BitVec.ofNat 32 s.val) :
    refMask i (ix3 t 0 0) = 1#1 := by
  pointwise [refMask]
  rw [refCol_apply i t s hs]; exact in_word s

/-- The gather of one column per row, at an index. -/
theorem gather_col {α : Type} (p : S1024x64.Idx → α) (c : IVec S1024x1x1 32) (t : Fin 1024) (s : Fin 64)
    (hs : c (ix3 t 0 0) = BitVec.ofNat 32 s.val) :
    Host.gather gather_S1024x64_S1024x1x1_S1024x1_n_1_0_0_1_2_11 p c (ix2 t 0) = p (ix2 t s) := by
  refine congrArg p (funext fun a => Fin.ext ?_)
  match a with
  | ⟨0, _⟩ =>
    show GatherDims.start gather_S1024x64_S1024x1x1_S1024x1_n_1_0_0_1_2_11 (ix2 t 0) c (0 : Fin 2)
        + GatherDims.batchCoord gather_S1024x64_S1024x1x1_S1024x1_n_1_0_0_1_2_11 (ix2 t 0) (0 : Fin 2)
        + GatherDims.offCoord gather_S1024x64_S1024x1x1_S1024x1_n_1_0_0_1_2_11 (ix2 t 0) (0 : Fin 2) = t.val
    rw [GatherDims.start_batching _ _ _ _ (by decide), GatherDims.offCoord_eq_zero _ _ _ (by decide)]
    unfold GatherDims.batchCoord
    rw [dif_pos (by decide)]
    exact (Nat.add_zero _).trans (Nat.zero_add _)
  | ⟨1, _⟩ =>
    show GatherDims.start gather_S1024x64_S1024x1x1_S1024x1_n_1_0_0_1_2_11 (ix2 t 0) c (1 : Fin 2)
        + GatherDims.batchCoord gather_S1024x64_S1024x1x1_S1024x1_n_1_0_0_1_2_11 (ix2 t 0) (1 : Fin 2)
        + GatherDims.offCoord gather_S1024x64_S1024x1x1_S1024x1_n_1_0_0_1_2_11 (ix2 t 0) (1 : Fin 2) = s.val
    rw [GatherDims.batchCoord_eq_zero _ _ _ (by decide), GatherDims.offCoord_eq_zero _ _ _ (by decide)]
    unfold GatherDims.start
    rw [dif_pos (by decide)]
    have hi : GatherDims.siIdx gather_S1024x64_S1024x1x1_S1024x1_n_1_0_0_1_2_11 (ix2 t 0) ⟨0, by decide⟩ = ix3 t 0 0 := by
      funext b
      match b with
      | ⟨0, _⟩ => rfl
      | ⟨1, _⟩ => rfl
      | ⟨2, _⟩ => rfl
    exact (congrArg (fun k => min (c k).toInt.toNat 63) hi).trans ((congrArg (fun v : BitVec 32 => min v.toInt.toNat 63) hs).trans (clamp_word s))

/-- The gather of one expert's weights per row, at an index. -/
theorem gather_row {α : Type} (p : S64x256x512.Idx → α) (c : IVec S1024x1 32) (t : Fin 1024) (k : Fin 256) (h : Fin 512) (s : Fin 64)
    (hs : c (ix2 t 0) = BitVec.ofNat 32 s.val) :
    Host.gather gather_S64x256x512_S1024x1_S1024x256x512_12_0_n_n_0_1_1256512 p c (ix3 t k h) = p (ix3 s k h) := by
  refine congrArg p (funext fun a => Fin.ext ?_)
  match a with
  | ⟨0, _⟩ =>
    show GatherDims.start gather_S64x256x512_S1024x1_S1024x256x512_12_0_n_n_0_1_1256512 (ix3 t k h) c (0 : Fin 3)
        + GatherDims.batchCoord gather_S64x256x512_S1024x1_S1024x256x512_12_0_n_n_0_1_1256512 (ix3 t k h) (0 : Fin 3)
        + GatherDims.offCoord gather_S64x256x512_S1024x1_S1024x256x512_12_0_n_n_0_1_1256512 (ix3 t k h) (0 : Fin 3) = s.val
    rw [GatherDims.batchCoord_eq_zero _ _ _ (by decide), GatherDims.offCoord_eq_zero _ _ _ (by decide)]
    unfold GatherDims.start
    rw [dif_pos (by decide)]
    have hi : GatherDims.siIdx gather_S64x256x512_S1024x1_S1024x256x512_12_0_n_n_0_1_1256512 (ix3 t k h) ⟨0, by decide⟩ = ix2 t 0 := by
      funext b
      match b with
      | ⟨0, _⟩ => rfl
      | ⟨1, _⟩ => rfl
    exact (congrArg (fun k => min (c k).toInt.toNat 63) hi).trans ((congrArg (fun v : BitVec 32 => min v.toInt.toNat 63) hs).trans (clamp_word s))
  | ⟨1, _⟩ =>
    show GatherDims.start gather_S64x256x512_S1024x1_S1024x256x512_12_0_n_n_0_1_1256512 (ix3 t k h) c (1 : Fin 3)
        + GatherDims.batchCoord gather_S64x256x512_S1024x1_S1024x256x512_12_0_n_n_0_1_1256512 (ix3 t k h) (1 : Fin 3)
        + GatherDims.offCoord gather_S64x256x512_S1024x1_S1024x256x512_12_0_n_n_0_1_1256512 (ix3 t k h) (1 : Fin 3) = k.val
    rw [GatherDims.batchCoord_eq_zero _ _ _ (by decide)]
    unfold GatherDims.start GatherDims.offCoord
    rw [dif_neg (by decide), dif_pos (by decide)]
    exact Nat.zero_add _
  | ⟨2, _⟩ =>
    show GatherDims.start gather_S64x256x512_S1024x1_S1024x256x512_12_0_n_n_0_1_1256512 (ix3 t k h) c (2 : Fin 3)
        + GatherDims.batchCoord gather_S64x256x512_S1024x1_S1024x256x512_12_0_n_n_0_1_1256512 (ix3 t k h) (2 : Fin 3)
        + GatherDims.offCoord gather_S64x256x512_S1024x1_S1024x256x512_12_0_n_n_0_1_1256512 (ix3 t k h) (2 : Fin 3) = h.val
    rw [GatherDims.batchCoord_eq_zero _ _ _ (by decide)]
    unfold GatherDims.start GatherDims.offCoord
    rw [dif_neg (by decide), dif_pos (by decide)]
    exact Nat.zero_add _

/-- Where every route index is in range, the weight the reference gives a row is its softmax at its expert. -/
theorem refPick_apply (x : FVec Ideal S1024x256 .bf16) (r : FVec Ideal S256x64 .bf16) (i : IVec S1024x1 32)
    (sel : Fin 1024 → Fin 64) (hs : ∀ t, i (ix2 t 0) = BitVec.ofNat 32 (sel t).val) (t : Fin 1024) :
    refPick x r i (ix2 t 0) = prob x r t (sel t) := by
  have hm : Host.reduce IntOp.andi (refMask i) (constantI S_ 1 1#1) reducesTo_S1024x1x1_S1024x1_d2 h_S_ (ix2 t 0) = 1#1 :=
    Host.reduce_andi_one _ _ _ _ _ rfl fun j => by
      obtain ⟨a, b, c, rfl⟩ : ∃ (a : Fin 1024) (b : Fin 1) (c : Fin 1), j = ix3 a b c := ⟨j 0, j 1, j 2, eq_ix3 j⟩
      obtain rfl : b = 0 := Subsingleton.elim _ _
      obtain rfl : c = 0 := Subsingleton.elim _ _
      exact refMask_apply i a (sel a) (hs a)
  unfold refPick
  show Scalar.select _ _ _ = _
  rw [hm, gather_col _ _ t (sel t) (refCol_apply i t (sel t) (hs t)), refProbs_apply]
  rfl

/-- The reference's result at an index. -/
theorem refOut_apply (x : FVec Ideal S1024x256 .bf16) (r : FVec Ideal S256x64 .bf16) (i : IVec S1024x1 32) (e : FVec Ideal S64x256x512 .bf16)
    (w : FVec Ideal S256x512 .bf16) (sel : Fin 1024 → Fin 64) (hs : ∀ t, i (ix2 t 0) = BitVec.ofNat 32 (sel t).val) (t : Fin 1024) (h : Fin 512) :
    refOut x r i e w (ix2 t h)
      = prod x (fun k => w (ix2 k h)) t + prob x r t (sel t) * prod x (fun k => e (ix3 (sel t) k h)) t := by
  have hw : ∀ k : Fin 256, refWeights i e (ix3 t k h) = e (ix3 (sel t) k h) := fun k =>
    gather_row _ _ t k h (sel t) (refRow_apply i t (sel t) (hs t))
  rw [← refPick_apply x r i sel hs t]
  unfold prod
  simp only [← hw]
  pointwise! [refOut]

end Ref

end Cert.MoeProof
-- ==== Proof.KerValue.lean ====
/-
# The kernel's result, read at an index

Over the extended reals, where every route index lies in `[0, 64)`: what a device computes of the experts it holds, and the sum it
makes of its own rows of that and of the fifteen landed blocks.
-/
module

public import proofs.«01_k».proof.Proof.Launch
public import proofs.«01_k».proof.Proof.RefValue
public import Idealize.ShloMosaic.Lib.Pointwise
public import Idealize.ShloMosaic.Lib.Pointwise.IndexBridge

@[expose] public section

noncomputable section

namespace Cert.MoeProof

open Cert.KernelIdeal Cert.KernelIdeal.Gen
open Idealize.ShloMosaic Idealize.ShloMosaic.TcCoe Idealize.SL.Sem

/-! ## The windows are whole arrays -/

section Whole

variable {F : FTy → Type} [FloatOps F]
variable (m : (ℓ : Loc nD τ sig) → Buf (Elt F) ℓ) (ρ : Dev nD → PrngReg)

/-- Each argument is staged whole. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem rstg_eq (c : Dev nD) : rstg m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem istg_eq (c : Dev nD) : istg m ρ c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
theorem estg_eq (c : Dev nD) : estg m ρ c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _
theorem wstg_eq (c : Dev nD) : wstg m ρ c = m ((c : Thread nD τ).loc main_arg4) :=
  Memref.read_access_unit_zero (Elt F) main_arg4 (off := fun a => (win0_4.index (0 : Fin 1)) a * main_arg4.ty.shape.size a)
    (funext fun a => by fin_cases a <;> decide) (fun a => by fin_cases a <;> decide) _

/-- The result array ends holding what the body leaves in its staging buffer. -/
theorem finalA_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (off := fun a => (win0_5.index (0 : Fin 1)) a * main_v1.ty.shape.size a)
    (funext fun a => by fin_cases a <;> decide) (fun a => by fin_cases a <;> decide) _).symm.trans h

/-! ## The loads at an index -/

/-- The weights of the `e`-th expert a device holds. -/
theorem ew_apply (f : (cc0_stg3_0 : Ref sig .tc).ty.Contents (Elt F)) (e : Fin 4) (h : ∀ a, (![e.val, 0, 0] : Fin 3 → ℕ) a + S1x256x512.size a ≤ S4x256x512.size a)
    (k : Fin 256) (l : Fin 512) : ew f ![e.val, 0, 0] h (ix3 0 k l) = f (ix3 e k l) := by
  refine congrArg f (funext fun a => Fin.ext ?_)
  match a with
  | ⟨0, _⟩ => show e.val + 1 * 0 = e.val; omega
  | ⟨1, _⟩ => show 0 + 1 * k.val = k.val; omega
  | ⟨2, _⟩ => show 0 + 1 * l.val = l.val; omega

theorem xrow_apply (c : Dev nD) (j : Fin 64) (k : Fin 256) : xrow m ρ c (ix2 j k) = xstg m ρ c (ix2 (rowOf c j) k) := by
  refine congrArg (xstg m ρ c) (funext fun a => Fin.ext ?_)
  have h := k0_off2_eq c
  match a with
  | ⟨0, _⟩ => show k0_off2 c 0 + 1 * j.val = 64 * c.val + j.val; rw [h, Nat.one_mul]; rfl
  | ⟨1, _⟩ => show k0_off2 c 1 + 1 * k.val = k.val; rw [h, Nat.one_mul]; exact Nat.zero_add _

theorem ownrow_apply (c : Dev nD) (j : Fin 64) (h : Fin 512) : ownrow m ρ c (ix2 j h) = part m ρ c (ix2 (rowOf c j) h) := by
  refine congrArg (part m ρ c) (funext fun a => Fin.ext ?_)
  have ho := k0_off3_eq c
  match a with
  | ⟨0, _⟩ => show k0_off3 c 0 + 1 * j.val = 64 * c.val + j.val; rw [ho, Nat.one_mul]; rfl
  | ⟨1, _⟩ => show k0_off3 c 1 + 1 * h.val = h.val; rw [ho, Nat.one_mul]; exact Nat.zero_add _

/-- Slot `o` of device `c` holds the rows of `c` in the partial product of device `c - o`. -/
theorem slotVal_apply (c : Dev nD) (o : Fin 16) (j : Fin 64) (h : Fin 512) :
    slotVal m ρ c o (ix3 0 j h) = part m ρ (senderOf c o) (ix2 (rowOf c j) h) := by
  have hi : slotVal m ρ c o (ix3 0 j h) = landed m ρ c (ix3 o j h) := by
    refine congrArg (landed m ρ c) (funext fun a => Fin.ext ?_)
    match a with
    | ⟨0, _⟩ => show o.val + 1 * 0 = o.val; omega
    | ⟨1, _⟩ => show 0 + 1 * j.val = j.val; omega
    | ⟨2, _⟩ => show 0 + 1 * h.val = h.val; omega
  rw [hi, ix2_eq_valueIdx]
  rfl

end Whole

/-! ## The partial product -/

set_option maxRecDepth 16384

/-- The device's number as the kernel computes it is its number. -/
theorem wd_eq : ∀ c : Dev nD, wd c = BitVec.ofNat 32 c.val := by decide

/-- A route index in range compares with an expert's number as numbers do. -/
theorem owner_word (s : Fin 64) (d : Fin 16) (e : Fin 4) :
    IntOp.cmpi .eq (BitVec.ofNat 32 s.val) (Scalar.addi (Scalar.muli 4#32 (BitVec.ofNat 32 d.val)) (BitVec.ofNat 32 e.val))
      = BitVec.ofBool (decide (s.val = 4 * d.val + e.val)) := by
  revert s d e; decide +kernel

theorem col_word : ∀ s j : Fin 64, IntOp.cmpi .eq (BitVec.ofNat 32 j.val) (BitVec.ofNat 32 s.val) = BitVec.ofBool (decide (s = j)) := by
  decide +kernel

theorem select_ofBool {α : Type} (p : Prop) [Decidable p] (a b : α) : Scalar.select (BitVec.ofBool (decide p)) a b = if p then a else b := by
  by_cases h : p <;> simp [h, Scalar.select]

/-- The weight the kernel gives a row: its softmax at its expert. -/
theorem weight_apply (x : Vec Ideal S1024x256 .bf16) (r : Vec Ideal S256x64 .bf16) (i : Vec Ideal S1024x1 .i32) (t : Fin 1024) (s : Fin 64)
    (hs : i (ix2 t 0) = BitVec.ofNat 32 s.val) : k0_pay4 x r i (ix2 t 0) = prob x r t s := by
  have h : k0_pay4 x r i (ix2 t 0)
      = ∑ j : Fin 64, Scalar.select (IntOp.cmpi .eq (BitVec.ofNat 32 j.val) (i (ix2 t 0))) (prob x r t j) 0 := by
    unfold prob
    pointwise! [k0_pay4, k0_pay2, k0_pay3]
  rw [h, hs]
  simp only [col_word, select_ofBool]
  exact (Finset.sum_ite_eq Finset.univ s _).trans (if_pos (Finset.mem_univ s))

/-- One expert's term: its product where the row is routed to it. -/
def term (x : Vec Ideal S1024x256 .bf16) (r : Vec Ideal S256x64 .bf16) (w : Fin 256 → EReal) (t : Fin 1024) (s : Fin 64) (n : ℕ) : EReal :=
  if s.val = n then prob x r t s * prod x w t else 0

theorem partOf_apply (d : Fin 16) (x : Vec Ideal S1024x256 .bf16) (r : Vec Ideal S256x64 .bf16) (i : Vec Ideal S1024x1 .i32)
    (e : (cc0_stg3_0 : Ref sig .tc).ty.Contents (Elt Ideal)) (t : Fin 1024) (h : Fin 512) (s : Fin 64)
    (hs : i (ix2 t 0) = BitVec.ofNat 32 s.val) :
    partOf (BitVec.ofNat 32 d.val) x r i e (ix2 t h)
      = term x r (fun k => e (ix3 0 k h)) t s (4 * d.val + (0 : Fin 4).val) + term x r (fun k => e (ix3 1 k h)) t s (4 * d.val + (1 : Fin 4).val)
        + term x r (fun k => e (ix3 2 k h)) t s (4 * d.val + (2 : Fin 4).val) + term x r (fun k => e (ix3 3 k h)) t s (4 * d.val + (3 : Fin 4).val) := by
  have hw : ∀ (q : Fin 4) (hq : ∀ a, (![q.val, 0, 0] : Fin 3 → ℕ) a + S1x256x512.size a ≤ S4x256x512.size a),
      Scalar.select (IntOp.cmpi .eq (BitVec.ofNat 32 s.val) (Scalar.addi (Scalar.muli 4#32 (BitVec.ofNat 32 d.val)) (BitVec.ofNat 32 q.val)))
          (prob x r t s * ∑ k : Fin 256, x (ix2 t k) * ew (F := Ideal) e ![q.val, 0, 0] hq (ix3 0 k h)) (0 : EReal)
        = term x r (fun k => e (ix3 q k h)) t s (4 * d.val + q.val) := fun q hq => by
    rw [owner_word, select_ofBool]
    simp only [ew_apply]
    rfl
  rw [← hw 0 inb_S4x256x512_S1x256x512_0_0_0, ← hw 1 inb_S4x256x512_S1x256x512_1_0_0, ← hw 2 inb_S4x256x512_S1x256x512_2_0_0,
    ← hw 3 inb_S4x256x512_S1x256x512_3_0_0, ← weight_apply x r i t s hs, ← hs]
  unfold partOf
  pointwise [k0_pay6, k0_pay5, k0_pay2, k0_pay3]

section Run

variable (m : (ℓ : Loc nD τ sig) → Buf (Elt Ideal) ℓ) (ρ : Dev nD → PrngReg)

/-- An entry of device `c`'s partial product. -/
def partAt (c : Dev nD) (t : Fin 1024) (h : Fin 512) : EReal := part m ρ c (ix2 t h)

/-- A value, a first summand and fifteen more, added in order, are the value and the sixteen's sum. -/
theorem sum_sixteen (f : Fin 16 → EReal) (a b : EReal) (g : Fin 15 → EReal) (hb : b = f 0) (hg : ∀ r, g r = f r.succ) :
    a + b + g 0 + g 1 + g 2 + g 3 + g 4 + g 5 + g 6 + g 7 + g 8 + g 9 + g 10 + g 11 + g 12 + g 13 + g 14 = a + ∑ o : Fin 16, f o := by
  rw [Fin.sum_univ_succ]
  simp only [← hg, ← hb]
  simp only [Fin.sum_univ_succ, Fin.sum_univ_zero, add_zero, ← add_assoc]
  rfl

/-- The result at an index: the shared product, and the sum of every device's partial product. -/
theorem outAt_apply (c : Dev nD) (j : Fin 64) (h : Fin 512) :
    outAt m ρ c (ix2 j h) = prod (xstg m ρ c) (fun k => wstg m ρ c (ix2 k h)) (rowOf c j)
      + ∑ o : Fin 16, partAt m ρ (senderOf c o) (rowOf c j) h := by
  have h0 : ownrow m ρ c (ix2 j h) = partAt m ρ (senderOf c 0) (rowOf c j) h := by
    rw [ownrow_apply, senderOf, sub_zero]; rfl
  have hs : ∀ r : Fin 15, sv m ρ c r (ix3 0 j h) = partAt m ρ (senderOf c r.succ) (rowOf c j) h := fun r => slotVal_apply m ρ c r.succ j h
  have hx : ∀ k, xrow m ρ c (ix2 j k) = xstg m ρ c (ix2 (rowOf c j) k) := xrow_apply m ρ c j
  refine Eq.trans ?_ (sum_sixteen (fun o => partAt m ρ (senderOf c o) (rowOf c j) h) _ _ (fun r => sv m ρ c r (ix3 0 j h)) h0 hs)
  unfold prod
  simp only [← hx]
  clear h0 hs hx
  unfold outAt
  pointwise [k0_pay1, k0_pay7, k0_pay8, k0_pay9, k0_pay10, k0_pay11, k0_pay12, k0_pay13, k0_pay14, k0_pay15, k0_pay16, k0_pay17, k0_pay18, k0_pay19]

end Run

end Cert.MoeProof
-- ==== Proof.Value.lean ====
/-
# The kernel computes the reference

Every row is routed to one expert and one device holds it, so of the sixteen partial products of a row exactly one is not zero; the
sum over the devices is the reference's weighted product.
-/
module

public import proofs.«01_k».proof.Proof.Frames
public import proofs.«01_k».proof.Proof.KerValue

@[expose] public section

noncomputable section

namespace Cert.MoeProof

open Cert.KernelIdeal Cert.KernelIdeal.Gen
open Idealize.ShloMosaic Idealize.ShloMosaic.TcCoe Idealize.SL.Sem

set_option maxRecDepth 16384

/-! ## Blocks at an index -/

/-- Expert `q` of device `d`'s four is expert `4 d + q` of all. -/
theorem expert_block (d : Fin 16) (E : (⟨3, ![64, 256, 512]⟩ : Shape).Idx → EReal) (q : Fin 4) (k : Fin 256) (h : Fin 512) (s : Fin 64)
    (hs : s.val = 4 * d.val + q.val) :
    Layout.block ⟨3, ![4, 256, 512]⟩ ⟨3, ![64, 256, 512]⟩ 0 16 d E (by decide) (ix3 q k h) = E (ix3 s k h) := by
  rw [Layout.block_apply]
  refine congrArg E (funext fun a => Fin.ext ?_)
  match a with
  | ⟨0, _⟩ => show d.val * 4 + q.val = s.val; omega
  | ⟨1, _⟩ => rfl
  | ⟨2, _⟩ => rfl

/-- Row `j` of device `c`'s block of the result. -/
theorem result_block (c : Fin 16) (v : (⟨2, ![1024, 512]⟩ : Shape).Idx → EReal) (j : Fin 64) (h : Fin 512) :
    Layout.block ⟨2, ![64, 512]⟩ ⟨2, ![1024, 512]⟩ 0 16 c v (by decide) (ix2 j h) = v (ix2 (rowOf c j) h) := by
  rw [Layout.block_apply]
  refine congrArg v (funext fun a => Fin.ext ?_)
  match a with
  | ⟨0, _⟩ => show c.val * 64 + j.val = 64 * c.val + j.val; omega
  | ⟨1, _⟩ => rfl

/-! ## One device holds a row's expert -/

/-- The four terms of a device sum to the row's value where the device holds the row's expert, and to zero elsewhere. -/
theorem four_terms (d : Fin 16) (s : Fin 64) (V : EReal) (T : Fin 4 → EReal)
    (hT : ∀ q : Fin 4, T q = if s.val = 4 * d.val + q.val then V else 0) :
    T 0 + T 1 + T 2 + T 3 = if (⟨s.val / 4, by omega⟩ : Fin 16) = d then V else 0 := by
  rw [hT, hT, hT, hT]
  by_cases hd : (⟨s.val / 4, by omega⟩ : Fin 16) = d
  · rw [if_pos hd]
    have h4 : s.val / 4 = d.val := congrArg Fin.val hd
    have hc : s.val = 4 * d.val ∨ s.val = 4 * d.val + 1 ∨ s.val = 4 * d.val + 2 ∨ s.val = 4 * d.val + 3 := by omega
    rcases hc with h | h | h | h <;> simp [h]
  · rw [if_neg hd]
    have h4 : s.val / 4 ≠ d.val := fun h => hd (Fin.ext h)
    have hq : ∀ q : Fin 4, ¬ s.val = 4 * d.val + q.val := fun q h => h4 (by omega)
    rw [if_neg (hq 0), if_neg (hq 1), if_neg (hq 2), if_neg (hq 3)]
    simp

/-- Summed over the devices as a device meets them, that is the row's value. -/
theorem one_owner (c d : Fin 16) (V : EReal) : ∑ o : Fin 16, (if d = senderOf c o then V else 0) = V :=
  ((back c).sum_comp fun e => if d = e then V else 0).trans ((Finset.sum_ite_eq Finset.univ d _).trans (if_pos (Finset.mem_univ d)))

/-! ## The claim -/

section Run

variable (m : (ℓ : Loc nD τ sig) → Buf (Elt Ideal) ℓ) (ρ : Dev nD → PrngReg)

/-- Device `d`'s partial product at an index, where the arguments are parts of the whole arrays. -/
theorem partAt_eq (d : Dev nD) (x : Vec Ideal S1024x256 .bf16) (r : Vec Ideal S256x64 .bf16) (i : Vec Ideal S1024x1 .i32)
    (E : (⟨3, ![64, 256, 512]⟩ : Shape).Idx → EReal) (hx : xstg m ρ d = x) (hr : rstg m ρ d = r) (hi : istg m ρ d = i)
    (he : estg m ρ d = Layout.block ⟨3, ![4, 256, 512]⟩ ⟨3, ![64, 256, 512]⟩ 0 16 d E)
    (t : Fin 1024) (h : Fin 512) (s : Fin 64) (hs : i (ix2 t 0) = BitVec.ofNat 32 s.val) :
    partAt m ρ d t h = if (⟨s.val / 4, by omega⟩ : Fin 16) = d then prob x r t s * prod x (fun k => E (ix3 s k h)) t else 0 := by
  have hT : ∀ q : Fin 4, term x r (fun k => estg m ρ d (ix3 q k h)) t s (4 * d.val + q.val)
      = if s.val = 4 * d.val + q.val then prob x r t s * prod x (fun k => E (ix3 s k h)) t else 0 := fun q => by
    unfold term
    by_cases hq : s.val = 4 * d.val + q.val
    · rw [if_pos hq, if_pos hq, he]
      exact congrArg (fun w => prob x r t s * prod x w t) (funext fun k => expert_block d E q k h s hq)
    · rw [if_neg hq, if_neg hq]
  unfold partAt part
  rw [hx, hr, hi, wd_eq, partOf_apply d x r i _ t h s hs]
  exact four_terms d s _ (fun q => term x r (fun k => estg m ρ d (ix3 q k h)) t s (4 * d.val + q.val)) hT

/-- From arguments that are parts of whole arrays with route indices in range, each device's result is its rows of the reference's. -/
theorem outAt_eq (x : Vec Ideal S1024x256 .bf16) (r : Vec Ideal S256x64 .bf16) (i : Vec Ideal S1024x1 .i32)
    (E : (⟨3, ![64, 256, 512]⟩ : Shape).Idx → EReal) (w : Vec Ideal S256x512 .bf16)
    (hx : ∀ d, xstg m ρ d = x) (hr : ∀ d, rstg m ρ d = r) (hi : ∀ d, istg m ρ d = i)
    (he : ∀ d : Dev nD, estg m ρ d = Layout.block ⟨3, ![4, 256, 512]⟩ ⟨3, ![64, 256, 512]⟩ 0 16 d E) (hw : ∀ d, wstg m ρ d = w)
    (sel : Fin 1024 → Fin 64) (hs : ∀ t, i (ix2 t 0) = BitVec.ofNat 32 (sel t).val) (c : Dev nD) :
    outAt m ρ c = Layout.block ⟨2, ![64, 512]⟩ ⟨2, ![1024, 512]⟩ 0 16 c (refOut x r i E w) := by
  funext y
  obtain ⟨j, h, rfl⟩ : ∃ (j : Fin 64) (h : Fin 512), y = ix2 j h := ⟨y 0, y 1, eq_ix2 y⟩
  have hp : ∀ o : Fin 16, partAt m ρ (senderOf c o) (rowOf c j) h
      = if (⟨(sel (rowOf c j)).val / 4, by omega⟩ : Fin 16) = senderOf c o
        then prob x r (rowOf c j) (sel (rowOf c j)) * prod x (fun k => E (ix3 (sel (rowOf c j)) k h)) (rowOf c j) else 0 := fun o =>
    partAt_eq m ρ (senderOf c o) x r i E (hx _) (hr _) (hi _) (he _) (rowOf c j) h (sel (rowOf c j)) (hs _)
  refine (outAt_apply m ρ c j h).trans ?_
  rw [Finset.sum_congr rfl fun o _ => hp o, one_owner, hx, hw]
  exact ((result_block c (refOut x r i E w) j h).trans (refOut_apply x r i E w sel hs (rowOf c j) h)).symm

end Run

/-- The precondition says that every route index is one of the sixty-four. -/
theorem route_range (m : (ℓ : Loc nD τ sig) → Buf (Elt Ideal) ℓ) (h : Cert.Pre_KernelIdeal_in_range_KernelIdeal m) (t : Fin 1024) :
    ∃ s : Fin 64, m (((0 : Dev nD) : Thread nD τ).loc main_arg2) (ix2 t 0) = BitVec.ofNat 32 s.val := by
  have h1 := congrFun (h 0) (ix2 t 0)
  pointwise [Cert.Pre_in_range_KernelIdeal.fn] at h1
  obtain ⟨hlo, hhi⟩ := IntOp.andi_eq_one.1 h1
  exact word_range _ hlo hhi

/-- Where the route indices are in range, the kernel's idealization and the reference's compute the same. -/
theorem algebraic : Cert.algebraic_KernelIdeal_ReferenceIdeal_pre_in_range_KernelIdeal := by
  intro m g m' g' hpre hagree
  choose sel hsel using route_range m hpre
  have hi : ∀ t : Fin 1024, m' (((0 : Dev Cert.ReferenceIdeal.nD).tc : Thread Cert.ReferenceIdeal.nD Cert.ReferenceIdeal.τ).loc Cert.ReferenceIdeal.main_arg2) (ix2 t 0)
      = BitVec.ofNat 32 (sel t).val := fun t => (congrFun (hagree 0).2.2.1 (ix2 t 0)).symm.trans (hsel t)
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run defs _ _).mono (fun _ h c =>
      ⟨(h.1 c (5 : Fin 6)).trans ((finalA_out m g c).trans ?_), (h.1 c (0 : Fin 6)).trans (finalA_in m g c (0 : Fin 6) rfl),
        (h.1 c (1 : Fin 6)).trans (finalA_in m g c (1 : Fin 6) rfl), (h.1 c (2 : Fin 6)).trans (finalA_in m g c (2 : Fin 6) rfl),
        (h.1 c (3 : Fin 6)).trans (finalA_in m g c (3 : Fin 6) rfl), (h.1 c (4 : Fin 6)).trans (finalA_in m g c (4 : Fin 6) rfl)⟩)
      (run_main (F := Ideal) m g)
    exact outAt_eq m g _ _ _ _ _ (fun d => (xstg_eq m g d).trans (hagree d).1) (fun d => (rstg_eq m g d).trans (hagree d).2.1)
      (fun d => (istg_eq m g d).trans (hagree d).2.2.1) (fun d => (estg_eq m g d).trans (hagree d).2.2.2.1)
      (fun d => (wstg_eq m g d).trans (hagree d).2.2.2.2) sel hi c
  · exact (θ_run Cert.ReferenceIdeal.defs _ _).mono (fun _ h => h 0) (Cert.ReferenceIdeal.Value.run (F := Ideal) m' g')

end Cert.MoeProof

end
-- ==== Proof.lean ====
module

public import proofs.«01_k».proof.Defs
public import proofs.«01_k».proof.Proof.Frames
public import proofs.«01_k».proof.Proof.Value

@[expose] public section

noncomputable section

namespace Cert.Proof

open Cert.MoeProof

theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts, frame_kernel, frame_ideal, frame_ideal_pre, frame_ref, frame_ref_pre, trivial, algebraic⟩

end Cert.Proof

end
